-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DistinctIdeal (m : (ℓ : Loc Cert.DistinctIdeal.nD Cert.DistinctIdeal.τ Cert.DistinctIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_DistinctIdeal [hDistinctIdeal : Cert.DistinctIdeal.Facts] : Prop :=
  ∀ (m : (ℓ : Loc Cert.DistinctIdeal.nD Cert.DistinctIdeal.τ Cert.DistinctIdeal.sig) → Buf (Elt Ideal) ℓ) (g : Dev Cert.DistinctIdeal.nD → PrngReg), Pre_DistinctIdeal m →
    θ_run (Cert.DistinctIdeal.defs (F := Ideal)) (onTc (τ := Cert.DistinctIdeal.τ) (Cert.DistinctIdeal.main (F := Ideal))) ⟨m, fun _ => 0, g⟩ (fun r => (∀ c : Dev Cert.DistinctIdeal.nD,
      r.2.mem ((c.tc : Thread Cert.DistinctIdeal.nD Cert.DistinctIdeal.τ).loc Cert.DistinctIdeal.main_arg0) = m ((c.tc : Thread Cert.DistinctIdeal.nD Cert.DistinctIdeal.τ).loc Cert.DistinctIdeal.main_arg0))
      ∧ r.2.sem = fun _ => 0)

def preserves_Kernel_KernelIdeal : Prop :=
  True

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![256, 4096]⟩ (Layout.meshBlock [2, 4, 4] ![[], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 8]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![256, 8]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v4) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def algebraic_KernelIdeal_DistinctIdeal [hKernelIdeal : Cert.KernelIdeal.Facts] [hDistinctIdeal : Cert.DistinctIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.DistinctIdeal.nD Cert.DistinctIdeal.τ Cert.DistinctIdeal.sig) → Buf (Elt Ideal) ℓ) (g' : Dev Cert.DistinctIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![256, 4096]⟩ (Layout.meshBlock [2, 4, 4] ![[], [2]] c) (m' (((0 : Dev Cert.DistinctIdeal.nD).tc : Thread Cert.DistinctIdeal.nD Cert.DistinctIdeal.τ).loc Cert.DistinctIdeal.main_arg0))) →
    ∃ (v0 : Buf (Elt Ideal) (((0 : Dev Cert.DistinctIdeal.nD).tc : Thread Cert.DistinctIdeal.nD Cert.DistinctIdeal.τ).loc Cert.DistinctIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.DistinctIdeal.defs (F := Ideal)) (onTc (τ := Cert.DistinctIdeal.τ) (Cert.DistinctIdeal.main (F := Ideal))) ⟨m', fun _ => 0, g'⟩ (fun r =>
          r.2.mem (((0 : Dev Cert.DistinctIdeal.nD).tc : Thread Cert.DistinctIdeal.nD Cert.DistinctIdeal.τ).loc Cert.DistinctIdeal.main_v14) = v0
          ∧ r.2.mem (((0 : Dev Cert.DistinctIdeal.nD).tc : Thread Cert.DistinctIdeal.nD Cert.DistinctIdeal.τ).loc Cert.DistinctIdeal.main_arg0) = m' (((0 : Dev Cert.DistinctIdeal.nD).tc : Thread Cert.DistinctIdeal.nD Cert.DistinctIdeal.τ).loc Cert.DistinctIdeal.main_arg0))

def Claim : Prop :=
  ∃ (hKernel : Cert.Kernel.Facts) (hKernelIdeal : Cert.KernelIdeal.Facts) (hReferenceIdeal : Cert.ReferenceIdeal.Facts) (hDistinctIdeal : Cert.DistinctIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ quiescent_DistinctIdeal (hDistinctIdeal := hDistinctIdeal)
    ∧ preserves_Kernel_KernelIdeal
    ∧ algebraic_KernelIdeal_ReferenceIdeal_on_untied (hKernelIdeal := hKernelIdeal) (hReferenceIdeal := hReferenceIdeal) (hOn_untied := hOn_untied)
    ∧ algebraic_KernelIdeal_DistinctIdeal (hKernelIdeal := hKernelIdeal) (hDistinctIdeal := hDistinctIdeal)
-- ==== On_untied.lean ====
abbrev S256x4096 : Shape := ⟨2, ![256, 4096]⟩
abbrev S256x8 : Shape := ⟨2, ![256, 8]⟩
abbrev S256x1 : Shape := ⟨2, ![256, 1]⟩
abbrev S256x7 : Shape := ⟨2, ![256, 7]⟩
abbrev S_ : Shape := ⟨0, ![]⟩

class Facts : Prop where
  bitsLt_bf16_f32 : FTy.bits .bf16 < FTy.bits .f32
  slices_S256x4096_S256x8_0_0 : S256x4096.Slices ![0, 0] S256x8
  slices_S256x8_S256x1_0_0 : S256x8.Slices ![0, 0] S256x1
  slices_S256x8_S256x7_0_1 : S256x8.Slices ![0, 1] S256x7
  slices_S256x8_S256x7_0_0 : S256x8.Slices ![0, 0] S256x7
  concatenates_S256x1_S256x7_S256x8_d1 : Shape.Concatenates [S256x1, S256x7] S256x8 1
  natLt_1_32 : 1 < 32
  bcast_S_S_ : S_.BroadcastsInDim S_ (![] : Fin 0 → Fin S_.rank)
  reduceWindows_S256x8_S256x8_w1s1p0_0_w8s1p7_0 : S256x8.ReduceWindows (![1, 8] : Fin 2 → Nat) ![1, 1] ![0, 7] ![0, 0] S256x8
  h_S_ : 0 < S_.numel
  bcast_S_S256x8 : S_.BroadcastsInDim S256x8 (![] : Fin 0 → Fin S256x8.rank)

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S256x4096 .f32) : FVec F S256x4096 .f32 :=
  let v0 : FVec F S256x4096 .f32 := (fun x => Host.sort S256x4096 1 comparator_f32_d1 x) arg0
  v0

def fn_cummin {F : FTy → Type} [FloatOps F] (arg0 : IVec S256x8 32) : IVec S256x8 32 :=
  let c : IVec S_ 32 := constantI S_ 32 2147483647#32
  let v0 : IVec S_ 32 := broadcastInDim S_ ![] bcast_S_S_ c
  let v1 : IVec S256x8 32 := (fun x v => Host.reduceWindow IntOp.minsi ![1, 8] ![1, 1] ![0, 7] ![0, 0] x v reduceWindows_S256x8_S256x8_w1s1p0_0_w8s1p7_0 h_S_) arg0 v0
  v1

def fn {F : FTy → Type} [FloatOps F] (main_arg0 : FVec F S256x4096 .bf16) : IVec S256x8 1 :=
  let main_v0 : FVec F S256x4096 .f32 := (extf .f32 · bitsLt_bf16_f32) main_arg0
  let main_v1 : FVec F S256x4096 .f32 := Host.negf main_v0
  let main_v2 : FVec F S256x4096 .f32 := fn_sort (F := F) main_v1
  let main_v3 : FVec F S256x8 .f32 := (extractStridedSlice S256x8 ![0, 0] · slices_S256x4096_S256x8_0_0) main_v2
  let main_v4 : FVec F S256x8 .f32 := Host.negf main_v3
  let main_v5 : FVec F S256x1 .f32 := (extractStridedSlice S256x1 ![0, 0] · slices_S256x8_S256x1_0_0) main_v4
  let main_v6 : FVec F S256x1 .f32 := (extractStridedSlice S256x1 ![0, 0] · slices_S256x8_S256x1_0_0) main_v4
  let main_v7 : IVec S256x1 1 := cmpf .oeq main_v5 main_v6
  let main_v8 : FVec F S256x7 .f32 := (extractStridedSlice S256x7 ![0, 1] · slices_S256x8_S256x7_0_1) main_v4
  let main_v9 : FVec F S256x7 .f32 := (extractStridedSlice S256x7 ![0, 0] · slices_S256x8_S256x7_0_0) main_v4
  let main_v10 : IVec S256x7 1 := cmpf .olt main_v8 main_v9
  let main_v11 : IVec S256x8 1 := (fun a b => concatenate S256x8 1 [⟨S256x1, a⟩, ⟨S256x7, b⟩] concatenates_S256x1_S256x7_S256x8_d1) main_v7 main_v10
  let main_v12 : IVec S256x8 32 := (extui 32 · natLt_1_32) main_v11
  let main_v13 : IVec S256x8 32 := fn_cummin (F := F) main_v12
  let main_c : IVec S_ 32 := constantI S_ 32 1#32
  let main_v14 : IVec S256x8 32 := broadcastInDim S256x8 ![] bcast_S_S256x8 main_c
  let main_v15 : IVec S256x8 1 := cmpi .eq main_v13 main_v14
  main_v15
-- ==== Kernel.lean ====
abbrev S256x1024 : Shape := ⟨2, ![256, 1024]⟩
abbrev S256x8 : Shape := ⟨2, ![256, 8]⟩
abbrev S4x256x8 : Shape := ⟨3, ![4, 256, 8]⟩
abbrev S3 : Shape := ⟨1, ![3]⟩
abbrev S_ : Shape := ⟨0, ![]⟩
abbrev S256 : Shape := ⟨1, ![256]⟩
abbrev S256x1 : Shape := ⟨2, ![256, 1]⟩
abbrev S1x256x8 : Shape := ⟨3, ![1, 256, 8]⟩
abbrev S1 : Shape := ⟨1, ![1]⟩
abbrev S4x256 : Shape := ⟨2, ![4, 256]⟩
abbrev S1x256x1 : Shape := ⟨3, ![1, 256, 1]⟩

abbrev nBuf : Space → Nat
  | .hbm => 2
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x8, .f32⟩
  | .local _ .vmem, ⟨0, _⟩ => ⟨S256x1024, .bf16⟩
  | .local _ .vmem, ⟨1, _⟩ => ⟨S256x8, .f32⟩
  | .local _ .vmem, ⟨2, _⟩ => ⟨S4x256x8, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v21 : BitVec 32 := Scalar.muli v2 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_off1 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v109 : Index := Scalar.indexCast v8
  let c0_52 : Index := 0#32
  let c0_53 : Index := 0#32
  ![v109.toNat, 0, 0]
def k0_off2 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_67 : BitVec 32 := 0#32
  let c0_i32_68 : BitVec 32 := 0#32
  ![v8.toNat, 0, 0]
def k0_dev4 (d0 : Dev nD) : Nat :=
  let c0_i32_64 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_63 : BitVec 32 := 16#32
  let v124 : BitVec 32 := Scalar.muli v2 c16_i32_63
  let v125 : BitVec 32 := Scalar.addi c0_i32_64 v124
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_65 : BitVec 32 := 4#32
  let v126 : BitVec 32 := Scalar.muli v5 c4_i32_65
  let v127 : BitVec 32 := Scalar.addi v125 v126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v113 : BitVec 32 := Scalar.addi v8 c1_i32_54
  let c4_i32_55 : BitVec 32 := 4#32
  let c0_i32_56 : BitVec 32 := 0#32
  let v114 : BitVec 1 := Scalar.cmpi .eq c4_i32_55 c0_i32_56
  let c1_i32_57 : BitVec 32 := 1#32
  let v115 : BitVec 32 := Scalar.select v114 c1_i32_57 c4_i32_55
  let v116 : BitVec 32 := Scalar.remsi v113 v115
  let c0_i32_59 : BitVec 32 := 0#32
  let v118 : BitVec 1 := Scalar.cmpi .slt v116 c0_i32_59
  let c0_i32_60 : BitVec 32 := 0#32
  let v119 : BitVec 1 := Scalar.cmpi .slt v115 c0_i32_60
  let v120 : BitVec 1 := Scalar.xori v118 v119
  let c0_i32_58 : BitVec 32 := 0#32
  let v117 : BitVec 1 := Scalar.cmpi .ne v116 c0_i32_58
  let v121 : BitVec 1 := Scalar.andi v120 v117
  let v122 : BitVec 32 := Scalar.addi v116 v115
  let v123 : BitVec 32 := Scalar.select v121 v122 v116
  let c1_i32_66 : BitVec 32 := 1#32
  let v128 : BitVec 32 := Scalar.muli v123 c1_i32_66
  let v129 : BitVec 32 := Scalar.addi v127 v128
  v129.toNat
def k0_dev5 (d0 : Dev nD) : Nat :=
  let c0_i32_81 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_80 : BitVec 32 := 16#32
  let v149 : BitVec 32 := Scalar.muli v2 c16_i32_80
  let v150 : BitVec 32 := Scalar.addi c0_i32_81 v149
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_82 : BitVec 32 := 4#32
  let v151 : BitVec 32 := Scalar.muli v5 c4_i32_82
  let v152 : BitVec 32 := Scalar.addi v150 v151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_71 : BitVec 32 := 2#32
  let v138 : BitVec 32 := Scalar.addi v8 c2_i32_71
  let c4_i32_72 : BitVec 32 := 4#32
  let c0_i32_73 : BitVec 32 := 0#32
  let v139 : BitVec 1 := Scalar.cmpi .eq c4_i32_72 c0_i32_73
  let c1_i32_74 : BitVec 32 := 1#32
  let v140 : BitVec 32 := Scalar.select v139 c1_i32_74 c4_i32_72
  let v141 : BitVec 32 := Scalar.remsi v138 v140
  let c0_i32_76 : BitVec 32 := 0#32
  let v143 : BitVec 1 := Scalar.cmpi .slt v141 c0_i32_76
  let c0_i32_77 : BitVec 32 := 0#32
  let v144 : BitVec 1 := Scalar.cmpi .slt v140 c0_i32_77
  let v145 : BitVec 1 := Scalar.xori v143 v144
  let c0_i32_75 : BitVec 32 := 0#32
  let v142 : BitVec 1 := Scalar.cmpi .ne v141 c0_i32_75
  let v146 : BitVec 1 := Scalar.andi v145 v142
  let v147 : BitVec 32 := Scalar.addi v141 v140
  let v148 : BitVec 32 := Scalar.select v146 v147 v141
  let c1_i32_83 : BitVec 32 := 1#32
  let v153 : BitVec 32 := Scalar.muli v148 c1_i32_83
  let v154 : BitVec 32 := Scalar.addi v152 v153
  v154.toNat
def k0_dev6 (d0 : Dev nD) : Nat :=
  let c0_i32_98 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_97 : BitVec 32 := 16#32
  let v174 : BitVec 32 := Scalar.muli v2 c16_i32_97
  let v175 : BitVec 32 := Scalar.addi c0_i32_98 v174
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_99 : BitVec 32 := 4#32
  let v176 : BitVec 32 := Scalar.muli v5 c4_i32_99
  let v177 : BitVec 32 := Scalar.addi v175 v176
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_88 : BitVec 32 := 3#32
  let v163 : BitVec 32 := Scalar.addi v8 c3_i32_88
  let c4_i32_89 : BitVec 32 := 4#32
  let c0_i32_90 : BitVec 32 := 0#32
  let v164 : BitVec 1 := Scalar.cmpi .eq c4_i32_89 c0_i32_90
  let c1_i32_91 : BitVec 32 := 1#32
  let v165 : BitVec 32 := Scalar.select v164 c1_i32_91 c4_i32_89
  let v166 : BitVec 32 := Scalar.remsi v163 v165
  let c0_i32_93 : BitVec 32 := 0#32
  let v168 : BitVec 1 := Scalar.cmpi .slt v166 c0_i32_93
  let c0_i32_94 : BitVec 32 := 0#32
  let v169 : BitVec 1 := Scalar.cmpi .slt v165 c0_i32_94
  let v170 : BitVec 1 := Scalar.xori v168 v169
  let c0_i32_92 : BitVec 32 := 0#32
  let v167 : BitVec 1 := Scalar.cmpi .ne v166 c0_i32_92
  let v171 : BitVec 1 := Scalar.andi v170 v167
  let v172 : BitVec 32 := Scalar.addi v166 v165
  let v173 : BitVec 32 := Scalar.select v171 v172 v166
  let c1_i32_100 : BitVec 32 := 1#32
  let v178 : BitVec 32 := Scalar.muli v173 c1_i32_100
  let v179 : BitVec 32 := Scalar.addi v177 v178
  v179.toNat
def k0_off3 (d0 : Dev nD) (c1_i32_105 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v188 : BitVec 32 := Scalar.subi v8 c1_i32_105
  let c4_i32_106 : BitVec 32 := 4#32
  let c0_i32_107 : BitVec 32 := 0#32
  let v189 : BitVec 1 := Scalar.cmpi .eq c4_i32_106 c0_i32_107
  let c1_i32_108 : BitVec 32 := 1#32
  let v190 : BitVec 32 := Scalar.select v189 c1_i32_108 c4_i32_106
  let v191 : BitVec 32 := Scalar.remsi v188 v190
  let c0_i32_110 : BitVec 32 := 0#32
  let v193 : BitVec 1 := Scalar.cmpi .slt v191 c0_i32_110
  let c0_i32_111 : BitVec 32 := 0#32
  let v194 : BitVec 1 := Scalar.cmpi .slt v190 c0_i32_111
  let v195 : BitVec 1 := Scalar.xori v193 v194
  let c0_i32_109 : BitVec 32 := 0#32
  let v192 : BitVec 1 := Scalar.cmpi .ne v191 c0_i32_109
  let v196 : BitVec 1 := Scalar.andi v195 v192
  let v197 : BitVec 32 := Scalar.addi v191 v190
  let v198 : BitVec 32 := Scalar.select v196 v197 v191
  let c0_i32_118 : BitVec 32 := 0#32
  let c0_i32_119 : BitVec 32 := 0#32
  ![v198.toNat, 0, 0]
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x4096 : Shape := ⟨2, ![256, 4096]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S256x4096, .f32⟩
  | .hbm, ⟨2, _⟩ => ⟨S256x4096, .f32⟩
  | .hbm, ⟨3, _⟩ => ⟨S256x4096, .i32⟩
  | .hbm, ⟨4, _⟩ => ⟨S256x4096, .f32⟩
  | .hbm, ⟨5, _⟩ => ⟨S256x4096, .i32⟩
  | .hbm, ⟨6, _⟩ => ⟨S256x8, .i32⟩
  | .hbm, ⟨7, _⟩ => ⟨S_, .i32⟩
  | .hbm, ⟨8, _⟩ => ⟨S256x8, .i32⟩
  | .hbm, ⟨9, _⟩ => ⟨S256x8, .i1⟩
  | .hbm, ⟨10, _⟩ => ⟨S_, .i32⟩
  | .hbm, ⟨11, _⟩ => ⟨S256x8, .i32⟩
  | .hbm, ⟨12, _⟩ => ⟨S256x8, .i32⟩
  | .hbm, ⟨13, _⟩ => ⟨S256x8, .i32⟩
  | .hbm, ⟨14, _⟩ => ⟨S256x8x1, .i32⟩
  | .hbm, ⟨15, _⟩ => ⟨S1, .i32⟩
  | .hbm, ⟨16, _⟩ => ⟨S_, .i32⟩
  | .hbm, ⟨17, _⟩ => ⟨S256x8x1, .i32⟩
  | .hbm, ⟨18, _⟩ => ⟨S256x8x1, .i1⟩
  | .hbm, ⟨19, _⟩ => ⟨S1x1x1, .i32⟩
  | .hbm, ⟨20, _⟩ => ⟨S256x8x1, .i32⟩
  | .hbm, ⟨21, _⟩ => ⟨S256x8x1, .i1⟩
  | .hbm, ⟨22, _⟩ => ⟨S256x8x1, .i1⟩
  | .hbm, ⟨23, _⟩ => ⟨S_, .i1⟩
  | .hbm, ⟨24, _⟩ => ⟨S256x8, .i1⟩
  | .hbm, ⟨25, _⟩ => ⟨S256x8, .f32⟩
  | .hbm, ⟨26, _⟩ => ⟨S_, .f32⟩
  | .hbm, ⟨27, _⟩ => ⟨S256x8, .f32⟩
  | .hbm, ⟨28, _⟩ => ⟨S256x8, .f32⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1_0 : Ref sig .tc := ⟨.hbm, 4, rfl⟩
abbrev main_v2 : Ref sig .tc := ⟨.hbm, 5, rfl⟩
abbrev main_v3 : Ref sig .tc := ⟨.hbm, 6, rfl⟩
abbrev main_call1_c : Ref sig .tc := ⟨.hbm, 7, rfl⟩
abbrev main_call1_v0 : Ref sig .tc := ⟨.hbm, 8, rfl⟩
abbrev main_call1_v1 : Ref sig .tc := ⟨.hbm, 9, rfl⟩
abbrev main_call1_c_0 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_c_1 : Ref sig .tc := ⟨.hbm, 15, rfl⟩
abbrev main_call1_c_2 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_3 : Ref sig .tc := ⟨.hbm, 23, rfl⟩
abbrev main_call1_v12 : Ref sig .tc := ⟨.hbm, 24, rfl⟩
abbrev main_call1_v13 : Ref sig .tc := ⟨.hbm, 25, rfl⟩
abbrev main_call1_cst : Ref sig .tc := ⟨.hbm, 26, rfl⟩
abbrev main_call1_v14 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== DistinctIdeal.lean ====
abbrev S256x4096 : Shape := ⟨2, ![256, 4096]⟩
abbrev S256x1 : Shape := ⟨2, ![256, 1]⟩
abbrev S256x4095 : Shape := ⟨2, ![256, 4095]⟩
abbrev S_ : Shape := ⟨0, ![]⟩
abbrev S256x8 : Shape := ⟨2, ![256, 8]⟩

abbrev nBuf : Space → Nat
  | .hbm => 19
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S256x4096, .f32⟩
  | .hbm, ⟨2, _⟩ => ⟨S256x4096, .f32⟩
  | .hbm, ⟨3, _⟩ => ⟨S256x4096, .f32⟩
  | .hbm, ⟨4, _⟩ => ⟨S256x4096, .f32⟩
  | .hbm, ⟨5, _⟩ => ⟨S256x1, .f32⟩
  | .hbm, ⟨6, _⟩ => ⟨S256x4095, .f32⟩
  | .hbm, ⟨7, _⟩ => ⟨S256x4095, .f32⟩
  | .hbm, ⟨8, _⟩ => ⟨S256x4095, .i1⟩
  | .hbm, ⟨9, _⟩ => ⟨S256x4095, .f32⟩
  | .hbm, ⟨10, _⟩ => ⟨S_, .f32⟩
  | .hbm, ⟨11, _⟩ => ⟨S_, .f32⟩
  | .hbm, ⟨12, _⟩ => ⟨S256x4095, .f32⟩
  | .hbm, ⟨13, _⟩ => ⟨S256x4095, .f32⟩
  | .hbm, ⟨14, _⟩ => ⟨S256x4096, .f32⟩
  | .hbm, ⟨15, _⟩ => ⟨S256x4096, .f32⟩
  | .hbm, ⟨16, _⟩ => ⟨S256x4096, .f32⟩
  | .hbm, ⟨17, _⟩ => ⟨S256x8, .f32⟩
  | .hbm, ⟨18, _⟩ => ⟨S256x8, .f32⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_call1_v0 : Ref sig .tc := ⟨.hbm, 11, rfl⟩
abbrev main_call1_v1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Proof.Protocol.lean ====
/-
# The exchange protocol of the kernel

Four devices that share their first two mesh coordinates form a group. Every device of a group writes its own
eight row maxima into its own page of the gather buffer and sends that page to the three others. This file
names the devices, pages and semaphores, says which device pays which semaphore with what, and fixes the
order in which waiting is allowed.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueIdxCore
public import Idealize.ShloMosaic.Lib.ValueIdxCoords
public import Idealize.ShloMosaic.Lib.Tactic

@[expose] public section

noncomputable section

namespace Cert.TopEight

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## Ghost state -/

/-- The exchange's own ghost state; a duty is named by which of the three peers pays it. -/
abbrev UX : Type := URounds (GSem nD τ sig) (Fin 3)
/-- The pipeline's ghost state beside the exchange's. -/
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The state at launch: any memory, every counter zero. -/
def s₀ : MemSt nD τ sig (Elt F) := ⟨m, fun _ => 0, ρ⟩

/-! ## Devices -/

set_option backward.proofsInPublic true in
/-- The device at position `z` of the group of `c`. -/
def mate (c : Dev nD) (z : Fin 4) : Dev nD := ⟨4 * (c.val / 4) + z.val, by have := c.isLt; have := z.isLt; show _ < 32; have : c.val < 32 := c.isLt; omega⟩

set_option backward.proofsInPublic true in
/-- The position of a device in its group. -/
def posn (c : Dev nD) : Fin 4 := ⟨c.val % 4, Nat.mod_lt _ (by decide)⟩

set_option backward.proofsInPublic true in
/-- The device `k + 1` places after `c` in its group, cyclically. -/
def peer (k : Fin 3) (c : Dev nD) : Dev nD := ⟨4 * (c.val / 4) + (c.val % 4 + k.val + 1) % 4, by have : c.val < 32 := c.isLt; show _ < 32; omega⟩

/-- The number of the peer reached from the `k`-th peer that leads back. -/
def back (k : Fin 3) : Fin 3 := match k with | 0 => 2 | 1 => 1 | 2 => 0

theorem peer_back (k : Fin 3) (c : Dev nD) : peer (back k) (peer k c) = c := by revert k c; decide +kernel
theorem back_peer (k : Fin 3) (c : Dev nD) : peer k (peer (back k) c) = c := by revert k c; decide +kernel
theorem back_back (k : Fin 3) : back (back k) = k := by revert k; decide

/-- Going to the `k`-th peer is a permutation of the devices. -/
def turn (k : Fin 3) : Dev nD ≃ Dev nD := ⟨peer k, peer (back k), peer_back k, back_peer k⟩

theorem mate_posn (c : Dev nD) : mate c (posn c) = c := by revert c; decide +kernel
theorem mate_peer (k : Fin 3) (c : Dev nD) (z : Fin 4) : mate (peer k c) z = mate c z := by revert k c z; decide +kernel
theorem posn_peer_ne (k : Fin 3) (c : Dev nD) : posn (peer k c) ≠ posn c := by revert k c; decide +kernel
theorem posn_cases (c : Dev nD) (z : Fin 4) : z = posn c ∨ z = posn (peer 0 c) ∨ z = posn (peer 1 c) ∨ z = posn (peer 2 c) := by
  revert c z; decide +kernel
theorem posn_peer_inj (c : Dev nD) (k k' : Fin 3) (h : k ≠ k') : posn (peer k c) ≠ posn (peer k' c) := by
  revert c k k'; decide +kernel

/-- The three signals and the three sends name the three peers in turn. -/
theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 2 c := by revert c; decide +kernel

/-! ## Buffers and pages -/

abbrev inM : Memref sig .tc .vmem S256x1024 .bf16 := Memref.whole cc0_stg0_0
abbrev outM : Memref sig .tc .vmem S256x8 .f32 := Memref.whole cc0_stg1_0
abbrev gatM : Memref sig .tc .vmem S4x256x8 .bf16 := Memref.whole cc0_scratch0

/-- The page of the gather buffer that belongs to device `d`, as the kernel's copies name it. -/
abbrev pageM (d : Dev nD) : Memref sig .tc .vmem S256x8 .bf16 :=
  (gatM.slice (Rect.unit (s := S4x256x8) (k0_off2 d) S1x256x8.size (k0_off2_inb d)) (fun _ => rfl)).squeeze S256x8 squeezes_S1x256x8_S256x8

/-- The same page as the kernel's store names it. -/
abbrev pageR (d : Dev nD) : Rect S4x256x8 := Rect.unit (s := S4x256x8) (k0_off1 d) S1x256x8.size (k0_off1_inb d)

abbrev GatIdx : Type := S4x256x8.Idx
/-- The elements of a device's page. -/
def page (d : Dev nD) : Finset GatIdx := (pageM d).view.set

theorem page_eq_rect (d : Dev nD) : page d = (Rect.unit (s := S4x256x8) (k0_off2 d) S1x256x8.size (k0_off2_inb d)).set := by
  unfold page pageM
  rw [Memref.set_view_squeeze]
  exact View.set_slice_whole _ _

/-- An element lies in a device's page exactly when its first coordinate is the device's position. -/
theorem mem_page (d : Dev nD) (i : GatIdx) : i ∈ page d ↔ i 0 = posn d := by
  rw [page_eq_rect, Rect.mem_set_unit]
  rw [k0_off2_eq]
  constructor
  · intro h
    have h0 := h 0
    apply Fin.ext
    have h1 : d.val % 4 ≤ (i 0).val := h0.1
    have h2 : (i 0).val < d.val % 4 + 1 := h0.2
    show (i 0).val = d.val % 4
    omega
  · intro h a
    have hv : (i 0).val = d.val % 4 := congrArg Fin.val h
    match a with
    | ⟨0, _⟩ => exact ⟨hv.ge, by show (i 0).val < d.val % 4 + 1; omega⟩
    | ⟨1, _⟩ => exact ⟨Nat.zero_le _, by have : (i 1).val < 256 := (i 1).isLt; show (i 1).val < 0 + 256; omega⟩
    | ⟨2, _⟩ => exact ⟨Nat.zero_le _, by have : (i 2).val < 8 := (i 2).isLt; show (i 2).val < 0 + 8; omega⟩

theorem page_disj {d e : Dev nD} (h : posn d ≠ posn e) : Disjoint (page d) (page e) :=
  Finset.disjoint_left.mpr fun i hd he => h (((mem_page d i).mp hd).symm.trans ((mem_page e i).mp he))

/-- The four pages of a group make up the buffer. -/
theorem page_cover (c : Dev nD) : page c ∪ (page (peer 0 c) ∪ (page (peer 1 c) ∪ page (peer 2 c))) = Finset.univ := by
  refine Finset.eq_univ_iff_forall.mpr fun i => ?_
  simp only [Finset.mem_union, mem_page]
  exact posn_cases c (i 0)

theorem pageR_set (d : Dev nD) : ((gatM.access (pageR d) : View sig .tc _ _ _)).setOn Finset.univ = page d := by
  rw [View.setOn_univ, page_eq_rect]
  show ((View.whole cc0_scratch0).slice (pageR d)).set = _
  rw [View.set_slice_whole]
  refine Finset.ext fun i => ?_
  rw [Rect.mem_set_unit, Rect.mem_set_unit, k0_off1_eq, k0_off2_eq]
  exact Iff.rfl

/-! ## Semaphores -/

/-- The barrier semaphore, which the three peers signal before anything is sent. -/
abbrev barS : Sem sig := (SemArray.scalar (sig.barrier 0 rfl) : Sems sig S_).sem
/-- The semaphore on which the `k`-th send completes at its sender. -/
def sndS (k : Fin 3) : DmaSem sig := ⟨2 + k.val, by have := k.isLt; show _ < 8; omega⟩
/-- The semaphore on which the page sent by the `k`-th send lands at its receiver. -/
def rcvS (k : Fin 3) : DmaSem sig := ⟨5 + k.val, by have := k.isLt; show _ < 8; omega⟩

abbrev barCell (c : Dev nD) : GSem nD τ sig := ((c : Thread nD τ), .reg barS)
abbrev sndCell (k : Fin 3) (c : Dev nD) : GSem nD τ sig := ((c : Thread nD τ), .dma (sndS k))
abbrev rcvCell (k : Fin 3) (c : Dev nD) : GSem nD τ sig := ((c : Thread nD τ), .dma (rcvS k))

/-- The kernel's six own semaphores. -/
def osem : Fin 6 → SemLoc sig := fun j => .dma ⟨2 + j.val, by have := j.isLt; show _ < 8; omega⟩
/-- All seven semaphores of the exchange: the barrier, the sends, the receives. -/
def csem : Fin 7 → SemLoc sig := fun | 0 => .reg barS | 1 => .dma (sndS 0) | 2 => .dma (sndS 1) | 3 => .dma (sndS 2) | 4 => .dma (rcvS 0) | 5 => .dma (rcvS 1) | 6 => .dma (rcvS 2)
abbrev cell (x : Dev nD × Fin 7) : GSem nD τ sig := ((x.1 : Thread nD τ), csem x.2)

/-- Where a send's and a receive's semaphore stand among the seven. -/
def sndI (k : Fin 3) : Fin 7 := match k with | 0 => 1 | 1 => 2 | 2 => 3
def rcvI (k : Fin 3) : Fin 7 := match k with | 0 => 4 | 1 => 5 | 2 => 6
theorem csem_snd (k : Fin 3) : csem (sndI k) = .dma (sndS k) := by fin_cases k <;> rfl
theorem csem_rcv (k : Fin 3) : csem (rcvI k) = .dma (rcvS k) := by fin_cases k <;> rfl

/-- What one page counts for on a transfer's semaphore. -/
abbrev N : ℕ := (pageM (0 : Dev nD)).view.dmaCredit
theorem N_pos : 0 < N := View.dmaCredit_pos _ (by decide)

/-! ## Contents -/

/-- The block of the argument a device works on. -/
def blk (c : Dev nD) : (cc0_stg0_0 : Ref sig .tc).ty.Contents (Elt F) :=
  (win0_0.blk (0 : Fin 1)).view.read (Elt F) ((s₀ m ρ).mem ((c : Thread nD τ).loc main_arg0))

/-- The page a block gives: the eight maxima of each of its rows. -/
def pick (x : Vec F S256x1024 .bf16) : FVec F S1x256x8 .bf16 :=
  k0_pay6 (k0_pay5 (k0_pay2 x) (k0_pay3 x) (k0_pay4 x) (Scalar.ofBits .bf16 0xFF80#16))

/-- The gather buffer once all four pages have arrived. -/
def gathered (c : Dev nD) : Vec F S4x256x8 .bf16 := fun i => pick (blk m ρ (mate c (i 0))) (ix3 u0 (i 1) (i 2))

theorem gathered_peer (k : Fin 3) (c : Dev nD) : gathered m ρ (peer k c) = gathered m ρ c := by
  funext i
  exact congrArg (fun d => pick (blk m ρ d) (ix3 u0 (i 1) (i 2))) (mate_peer k c (i 0))

/-- The result a full gather buffer gives: the eight maxima over all its pages. -/
def merge (g : Vec F S4x256x8 .bf16) : FVec F S256x8 .f32 :=
  k0_pay1 (k0_pay8 g) (k0_pay11 g) (k0_pay14 g) (k0_pay17 g) (k0_pay20 g) (k0_pay21 g) (k0_pay22 g) (k0_pay23 g)

/-- The kernel's result on a device. -/
def result (c : Dev nD) : (cc0_stg1_0 : Ref sig .tc).ty.Contents (Elt F) := merge (gathered m ρ c)

/-- Device `c` holds page `d` of its gather buffer, with share `q`, as `f` says. -/
def holds (c d : Dev nD) (q : PosShare TreeShare) (f : Buf (Elt F) ((c : Thread nD τ).loc cc0_scratch0)) : sProp 𝕄 :=
  ((c : Thread nD τ).loc cc0_scratch0) ↦[page d]{q} f

omit [FloatOps F] in
instance holds_storable (c d : Dev nD) (q) (f) : BI.Storable (upEmb : UEmb _ 𝕄) (holds (F := F) c d q f) := by unfold holds; infer_instance

omit [FloatOps F] in
theorem holds_congr (c d : Dev nD) (q) {f g : Buf (Elt F) ((c : Thread nD τ).loc cc0_scratch0)} (h : ∀ i ∈ page d, f i = g i) :
    holds c d q f = holds c d q g := by unfold holds; exact pointsTo_congr h

omit [FloatOps F] in
/-- A whole gather buffer is its four pages. -/
theorem holds_all (c : Dev nD) (f : Buf (Elt F) ((c : Thread nD τ).loc cc0_scratch0)) :
    (((c : Thread nD τ).loc cc0_scratch0) ↦{fullShare} f : sProp 𝕄)
      ⊣⊢ iprop(holds c c fullShare f ∗ holds c (peer 0 c) fullShare f ∗ holds c (peer 1 c) fullShare f ∗ holds c (peer 2 c) fullShare f) := by
  have h12 : Disjoint (page (peer 1 c)) (page (peer 2 c)) := page_disj (posn_peer_inj c 1 2 (by decide))
  have h0 : Disjoint (page (peer 0 c)) (page (peer 1 c) ∪ page (peer 2 c)) :=
    Finset.disjoint_union_right.mpr ⟨page_disj (posn_peer_inj c 0 1 (by decide)), page_disj (posn_peer_inj c 0 2 (by decide))⟩
  have hc : Disjoint (page c) (page (peer 0 c) ∪ (page (peer 1 c) ∪ page (peer 2 c))) :=
    Finset.disjoint_union_right.mpr ⟨page_disj (posn_peer_ne 0 c).symm,
      Finset.disjoint_union_right.mpr ⟨page_disj (posn_peer_ne 1 c).symm, page_disj (posn_peer_ne 2 c).symm⟩⟩
  unfold holds
  have e : (((c : Thread nD τ).loc cc0_scratch0) ↦{fullShare} f : sProp 𝕄)
      = (((c : Thread nD τ).loc cc0_scratch0) ↦[page c ∪ (page (peer 0 c) ∪ (page (peer 1 c) ∪ page (peer 2 c)))]{fullShare} f) := by
    rw [page_cover]
  rw [e, BI.equiv_iff.mp ⟨(pointsTo_union hc).1, (pointsTo_union hc).2⟩, BI.equiv_iff.mp ⟨(pointsTo_union h0).1, (pointsTo_union h0).2⟩,
    BI.equiv_iff.mp ⟨(pointsTo_union h12).1, (pointsTo_union h12).2⟩]

/-- The three shares a device lends its own page out with, one for each send. -/
def part (k : Fin 3) : PosShare TreeShare := match k with
  | 0 => fullShare.left | 1 => fullShare.right.left | 2 => fullShare.right.right

omit [FloatOps F] in
/-- A page held in full is the page held with each of the three shares. -/
theorem holds_parts (c d : Dev nD) (f : Buf (Elt F) ((c : Thread nD τ).loc cc0_scratch0)) :
    (holds c d fullShare f : sProp 𝕄) ⊣⊢ iprop(holds c d (part 0) f ∗ holds c d (part 1) f ∗ holds c d (part 2) f) := by
  unfold holds part
  have h1 := pointsTo_share (Ix := Unit) (Name := ℕ) (U := UU) (Lvl := ℕ) (ℓ := (c : Thread nD τ).loc cc0_scratch0) (I := page d) (f := f) (PosShare.mem_left_op_right fullShare)
  have h2 := pointsTo_share (Ix := Unit) (Name := ℕ) (U := UU) (Lvl := ℕ) (ℓ := (c : Thread nD τ).loc cc0_scratch0) (I := page d) (f := f) (PosShare.mem_left_op_right fullShare.right)
  rw [BI.equiv_iff.mp ⟨h1.1, h1.2⟩, BI.equiv_iff.mp ⟨h2.1, h2.2⟩]

/-! ## The schedule -/

/-- What a signal or an arriving transfer hands the device that waits for it. The barrier's duty `d` brings, from
    the peer whose `d`-th peer the device is, that peer's copy of the device's own page, to be written by a send.
    A receive semaphore brings the sender's page, filled. A send semaphore brings the lent share back. -/
def pay (c : Dev nD) (sm : SemLoc sig) (d : Fin 3) : sProp 𝕄 :=
  match sm with
  | .reg _ => iprop(∃ f, holds (peer (back d) c) c fullShare f)
  | .dma s =>
    if 5 ≤ s.val then holds c (peer (back ⟨(s.val - 5) % 3, Nat.mod_lt _ (by decide)⟩) c) fullShare (gathered m ρ c)
    else holds c c (part ⟨(s.val - 2) % 3, Nat.mod_lt _ (by decide)⟩) (gathered m ρ c)

/-- Every semaphore of the exchange is used once: the barrier receives one unit from each of three peers, every other
    semaphore one transfer of a page. -/
def plan : Rounds.Schedule (GSem nD τ sig) (Fin 3) 𝕄 where
  duties g r := if r = 0 ∧ g.1.2 = .tc then (match g.2 with | .reg _ => Finset.univ | .dma s => if 2 ≤ s.val then {0} else ∅) else ∅
  unitless _ := False
  amount g _ _ := match g.2 with | .reg _ => 1 | .dma _ => N
  payload g _ d := pay m ρ g.1.1 g.2 d
  amount_pos g _ _ _ := by
    rcases g with ⟨a, sm⟩
    cases sm
    · exact Nat.one_pos
    · exact N_pos

instance plan_storable (g : GSem nD τ sig) (r : ℕ) (d : Fin 3) :
    BI.Storable (upEmb : UEmb _ 𝕄) ((plan (F := F) m ρ).payload g r d) := by
  show BI.Storable upEmb (pay m ρ g.1.1 g.2 d)
  unfold pay
  rcases g with ⟨a, sm⟩
  cases sm
  · infer_instance
  · dsimp only; split <;> infer_instance

section Plan
variable (c : Dev nD) (k : Fin 3)

theorem duties_bar : (plan (F := F) m ρ).duties (barCell c) 0 = Finset.univ := rfl
theorem duties_snd : (plan (F := F) m ρ).duties (sndCell k c) 0 = {0} := by fin_cases k <;> rfl
theorem duties_rcv : (plan (F := F) m ρ).duties (rcvCell k c) 0 = {0} := by fin_cases k <;> rfl
theorem duties_later (g : GSem nD τ sig) : ∀ r, 1 ≤ r → (plan (F := F) m ρ).duties g r = ∅ :=
  fun r hr => if_neg fun h => by omega

theorem expect_bar : (plan (F := F) m ρ).expect (barCell c) 0 = 3 := by
  unfold Schedule.expect Schedule.amountOf
  rw [duties_bar]
  show (∑ _d : Fin 3, 1) = 3
  simp
theorem expect_snd : (plan (F := F) m ρ).expect (sndCell k c) 0 = N := by
  unfold Schedule.expect Schedule.amountOf; rw [duties_snd, Finset.sum_singleton]; rfl
theorem expect_rcv : (plan (F := F) m ρ).expect (rcvCell k c) 0 = N := by
  unfold Schedule.expect Schedule.amountOf; rw [duties_rcv, Finset.sum_singleton]; rfl

theorem payload_bar (d : Fin 3) : (plan (F := F) m ρ).payload (barCell c) 0 d = iprop(∃ f, holds (peer (back d) c) c fullShare f) := rfl
theorem payload_snd (d : Fin 3) : (plan (F := F) m ρ).payload (sndCell k c) 0 d = holds c c (part k) (gathered m ρ c) := by
  fin_cases k <;> rfl
theorem payload_rcv (d : Fin 3) : (plan (F := F) m ρ).payload (rcvCell k c) 0 d = holds c (peer (back k) c) fullShare (gathered m ρ c) := by
  fin_cases k <;> rfl

omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ

/-- The barrier brings a device its own page at each of its three peers. -/
theorem rest_bar : bigSep ((plan (F := F) m ρ).duties (barCell c) 0 \ ∅) (fun d => (plan (F := F) m ρ).payload (barCell c) 0 d)
    = iprop((∃ f, holds (peer 2 c) c fullShare f) ∗ (∃ f, holds (peer 1 c) c fullShare f) ∗ (∃ f, holds (peer 0 c) c fullShare f)) := by
  rw [Finset.sdiff_empty, duties_bar, bigSep_three]; rfl
theorem rest_snd : bigSep ((plan (F := F) m ρ).duties (sndCell k c) 0 \ ∅) (fun d => (plan (F := F) m ρ).payload (sndCell k c) 0 d)
    = holds c c (part k) (gathered m ρ c) := by
  rw [Finset.sdiff_empty, duties_snd, bigSep_singleton, payload_snd]
theorem rest_rcv : bigSep ((plan (F := F) m ρ).duties (rcvCell k c) 0 \ ∅) (fun d => (plan (F := F) m ρ).payload (rcvCell k c) 0 d)
    = holds c (peer (back k) c) fullShare (gathered m ρ c) := by
  rw [Finset.sdiff_empty, duties_rcv, bigSep_singleton, payload_rcv]

end Plan

/-! ## What a device owes, and the order of waiting -/

/-- The unit owed to the barrier of the `k`-th peer, the page owed to its `k`-th receive semaphore. -/
abbrev oweB (k : Fin 3) (c : Dev nD) : CellTallies nD τ sig Unit := tallyAt (barCell (peer k c)) () 1
abbrev oweR (k : Fin 3) (c : Dev nD) : CellTallies nD τ sig Unit := tallyAt (rcvCell k (peer k c)) () N

/-- What is owed once all signals are given: three pages. -/
def O₁ (c : Dev nD) : CellTallies nD τ sig Unit := oweR 2 c + oweR 1 c + oweR 0 c
/-- What a device owes at launch. -/
def O₀ (c : Dev nD) : CellTallies nD τ sig Unit := O₁ c + oweB 2 c + oweB 1 c + oweB 0 c

def L (g : GSem nD τ sig) : Finset Unit := if g.1.2 = .tc then {()} else ∅
/-- Barriers come before receives; nobody waits on anything else while owing. -/
def lv (g : GSem nD τ sig) (_ : Unit) : ℕ := match g.2 with | .reg _ => 1 | .dma s => if 5 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_rcv (k : Fin 3) (c : Dev nD) : lv (rcvCell k c) () = 2 := by fin_cases k <;> rfl
theorem lv_bar (c : Dev nD) : lv (barCell c) () = 1 := rfl

theorem O₁_pos {c : Dev nD} {g : GSem nD τ sig} {u : Unit} (h : 0 < O₁ c g u) : ∃ k : Fin 3, g = rcvCell k (peer k c) := by
  unfold O₁ at h
  simp only [Pi.add_apply, Finsupp.add_apply, tallyAt_apply] at h
  by_contra hn
  rw [not_exists] at hn
  rw [if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) :
    ∃ k : Fin 3, g = rcvCell k (peer k c) ∨ g = barCell (peer k c) := by
  unfold O₀ at h
  simp only [Pi.add_apply, Finsupp.add_apply, tallyAt_apply] at h
  by_contra hn
  rw [not_exists] at hn
  rw [if_neg (fun h' => hn 2 (.inr h'.1)), if_neg (fun h' => hn 1 (.inr h'.1)), if_neg (fun h' => hn 0 (.inr h'.1))] at h
  obtain ⟨k, hk⟩ := O₁_pos (c := c) (g := g) (u := u) (by simpa using h)
  exact hn k (.inl hk)

omit [FloatOps F] in
/-- At its barrier a device owes pages only, and receives come after barriers. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨k, rfl⟩ := O₁_pos hg; exact Finset.mem_singleton_self _)
    (fun p hp => by rw [Finset.mem_singleton.mp hp]; exact Nat.le_refl _)
    (fun g u hg => by obtain ⟨k, rfl⟩ := O₁_pos hg; cases u; rw [lv_rcv]; decide)

omit [FloatOps F] in
/-- Waiting on a staging semaphore is allowed whatever is owed. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨k, rfl | rfl⟩ := O₀_pos hg <;> exact Finset.mem_singleton_self _)
      (fun p hp => by rw [Finset.mem_singleton.mp hp]; dsimp only [lv]; rw [if_neg (by omega)])
      (fun g u hg => by
        cases u
        obtain ⟨k, rfl | rfl⟩ := O₀_pos hg
        · rw [lv_rcv]; decide
        · rw [lv_bar]; decide)
  · rw [MayWait_zero]; iintro -; iempintro

end Cert.TopEight

end
-- ==== Proof.Body.lean ====
/-
# One run of the kernel body

The body is executed one operation at a time: three signals, the barrier, the local maxima written into the
device's own page, three sends, three receives, the sends' completion, and the result from the full buffer.
-/
module

public import proofs.«01_k».proof.Proof.Protocol

@[expose] public section

noncomputable section

namespace Cert.TopEight

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from -/

/-- What everybody knows for good: the invariant of every semaphore, and that its one round has begun. -/
def records (K : Dev nD × Fin 7 → ℕ) : sProp 𝕄 :=
  iprop((bigSep Finset.univ fun x : Dev nD × Fin 7 => cellInv EX (plan m ρ) (K x) (cell x))
    ∗ bigSep Finset.univ fun x : Dev nD × Fin 7 => reached EX (cell x) 0)

instance records_persistent (K : Dev nD × Fin 7 → ℕ) : BI.Persistent (records m ρ K) := by unfold records; infer_instance

variable (K : Dev nD × Fin 7 → ℕ)

theorem inv_of (x : Dev nD × Fin 7) : records m ρ K ⊢ cellInv EX (plan m ρ) (K x) (cell x) :=
  Laws.sep_elim_left.trans
    (bigSep_elim (Φ := fun x : Dev nD × Fin 7 => (cellInv EX (plan m ρ) (K x) (cell x) : sProp 𝕄)) (Finset.mem_univ x))

theorem begun_of (x : Dev nD × Fin 7) : records m ρ K ⊢ reached EX (cell x) 0 :=
  Laws.sep_elim_right.trans
    (bigSep_elim (Φ := fun x : Dev nD × Fin 7 => (reached EX (cell x) 0 : sProp 𝕄)) (Finset.mem_univ x))

theorem inv_bar (c : Dev nD) : records m ρ K ⊢ cellInv EX (plan m ρ) (K (c, 0)) (barCell c) := inv_of m ρ K (c, 0)
theorem inv_snd (k : Fin 3) (c : Dev nD) : records m ρ K ⊢ cellInv EX (plan m ρ) (K (c, sndI k)) (sndCell k c) := by
  have h := inv_of m ρ K (c, sndI k); unfold cell at h; rw [csem_snd] at h; exact h
theorem inv_rcv (k : Fin 3) (c : Dev nD) : records m ρ K ⊢ cellInv EX (plan m ρ) (K (c, rcvI k)) (rcvCell k c) := by
  have h := inv_of m ρ K (c, rcvI k); unfold cell at h; rw [csem_rcv] at h; exact h
theorem begun_bar (c : Dev nD) : records m ρ K ⊢ reached EX (barCell c) 0 := begun_of m ρ K (c, 0)
theorem begun_snd (k : Fin 3) (c : Dev nD) : records m ρ K ⊢ reached EX (sndCell k c) 0 := by
  have h := begun_of m ρ K (c, sndI k); unfold cell at h; rw [csem_snd] at h; exact h
theorem begun_rcv (k : Fin 3) (c : Dev nD) : records m ρ K ⊢ reached EX (rcvCell k c) 0 := by
  have h := begun_of m ρ K (c, rcvI k); unfold cell at h; rw [csem_rcv] at h; exact h

/-- The three duties a device pays through its `k`-th peer: that peer's barrier, its receive, the device's own send. -/
def dues (c : Dev nD) (k : Fin 3) : sProp 𝕄 :=
  iprop(dutyTok EX (barCell (peer k c)) 0 k ∗ dutyTok EX (rcvCell k (peer k c)) 0 (0 : Fin 3) ∗ dutyTok EX (sndCell k c) 0 (0 : Fin 3))

/-- A device's positions at its own seven semaphores, none of them waited on yet. -/
def places (c : Dev nD) : sProp 𝕄 := bigSep Finset.univ fun j : Fin 7 => atPos EX (cell (c, j)) 0 ∅ 0

omit [FloatOps F] in
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

def ghost (c : Dev nD) : sProp 𝕄 := iprop(records m ρ K ∗ places c ∗ dues c 0 ∗ dues c 1 ∗ dues c 2)

/-- Beside that: the credit for what the device will receive, and the order of waiting. -/
def start (c : Dev nD) : sProp 𝕄 :=
  iprop((∃ K, ghost m ρ K c) ∗ (cred (tallyAt (barCell c) () 3) ∗ cred (tallyAt (rcvCell 0 c) () N) ∗ cred (tallyAt (rcvCell 1 c) () N)
    ∗ cred (tallyAt (rcvCell 2 c) () N)) ∗ levAts L lv)

/-- Before the body: the start, and the gather buffer at any contents. -/
def Φ₀ (c : Dev nD) : sProp 𝕄 := iprop(start m ρ c ∗ ∃ f, (((c : Thread nD τ).loc cc0_scratch0) ↦{fullShare} f))
/-- After the body: the gather buffer full, every semaphore of the exchange back at zero. -/
def Φ₁ (c : Dev nD) : sProp 𝕄 :=
  iprop((((c : Thread nD τ).loc cc0_scratch0) ↦{fullShare} gathered m ρ c) ∗ bigSep Finset.univ fun j : Fin 7 => semVal (cell (c, j)) 0)

/-- The pipeline's data: the argument's block stays, the result's block becomes `result`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => blk m ρ c
    | ⟨1, _⟩ => result m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem cfg0_N : cfg0.N = 1 := by decide
def pt : Fin cfg0.N := ⟨0, by rw [cfg0_N]; decide⟩
theorem eq_pt (t : Fin cfg0.N) : t = pt := by
  obtain ⟨t, ht⟩ := t; have := cfg0_N; exact Fin.ext (by simp only [pt]; omega)

omit [FloatOps F] in
theorem bigSep_wins (Φ : Fin cfg0.W → sProp 𝕄) : bigSep Finset.univ Φ = iprop(Φ (0 : Fin 2) ∗ Φ (1 : Fin 2)) := bigSep_W0 Φ

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The data the operations move -/

abbrev rIn : Rect S256x1024 := Rect.unit (s := S256x1024) ![0, 0] S256x1024.size inb_S256x1024_S256x1024_0_0
abbrev rOut : Rect S256x8 := Rect.unit (s := S256x8) ![0, 0] S256x8.size inb_S256x8_S256x8_0_0
abbrev rGat : Rect S4x256x8 := Rect.unit (s := S4x256x8) ![0, 0, 0] S4x256x8.size inb_S4x256x8_S4x256x8_0_0_0

theorem zero_two : (![0, 0] : Fin 2 → Nat) = fun _ => 0 := funext fun a => by fin_cases a <;> rfl
theorem zero_three : (![0, 0, 0] : Fin 3 → Nat) = fun _ => 0 := funext fun a => by fin_cases a <;> rfl

omit [FloatOps F] in
theorem read_in (f : (cc0_stg0_0 : Ref sig .tc).ty.Contents (Elt F)) : (inM : Memref sig .tc .vmem S256x1024 .bf16).view.readAt (Elt F) rIn.toLoadRect f = f :=
  Memref.readAt_unit_zero (Elt F) cc0_stg0_0 zero_two _ f
omit [FloatOps F] in
theorem read_gat (f : (cc0_scratch0 : Ref sig .tc).ty.Contents (Elt F)) : (gatM : Memref sig .tc .vmem S4x256x8 .bf16).view.readAt (Elt F) rGat.toLoadRect f = f :=
  Memref.readAt_unit_zero (Elt F) cc0_scratch0 zero_three _ f
omit [FloatOps F] in
theorem write_out (f w : (cc0_stg1_0 : Ref sig .tc).ty.Contents (Elt F)) :
    ((outM : Memref sig .tc .vmem S256x8 .f32).access rOut : View sig .tc _ _ _).write (Elt F) f w Finset.univ = w :=
  Memref.write_access_unit_zero_univ (Elt F) cc0_stg1_0 zero_two _ f w

/-- Storing a device's maxima into its own page makes that page what `gathered` says. -/
theorem write_page (c : Dev nD) (f : (cc0_scratch0 : Ref sig .tc).ty.Contents (Elt F)) :
    ∀ i ∈ page c, ((gatM.access (pageR c) : View sig .tc _ _ _)).write (Elt F) f (pick (blk m ρ c)) Finset.univ i = gathered m ρ c i := by
  intro i hi
  rw [← pageR_set] at hi
  obtain ⟨x, -, rfl⟩ := Finset.mem_map.mp hi
  rw [View.write_emb_of_mem _ _ (Finset.mem_univ x)]
  refine (cast_eq _ _).trans ?_
  have e (a : Fin 3) : (((gatM.access (pageR c) : View sig .tc _ _ _)).emb x a).val = k0_off1 c a + (x a).val := by
    show k0_off1 c a + 1 * (x a).val = _
    rw [Nat.one_mul]
  rw [k0_off1_eq] at e
  unfold gathered
  have hx0 : (x 0).val = 0 := by have : (x 0).val < 1 := (x 0).isLt; omega
  have h0 : mate c (((gatM.access (pageR c) : View sig .tc _ _ _)).emb x 0) = c := by
    refine Eq.trans (congrArg (mate c) (Fin.ext ?_)) (mate_posn c)
    have := e 0
    rw [hx0] at this
    exact this
  have hx : x = ix3 u0 (((gatM.access (pageR c) : View sig .tc _ _ _)).emb x 1) (((gatM.access (pageR c) : View sig .tc _ _ _)).emb x 2) := by
    funext a
    match a with
    | ⟨0, _⟩ => exact Fin.ext hx0
    | ⟨1, _⟩ => exact Fin.ext ((Nat.zero_add _).symm.trans (e 1).symm)
    | ⟨2, _⟩ => exact Fin.ext ((Nat.zero_add _).symm.trans (e 2).symm)
  exact (congrArg (pick (blk m ρ c)) hx).trans (congrArg (fun d => pick (blk m ρ d) _) h0.symm)

omit [FloatOps F] in
theorem holds_def (c d : Dev nD) (q : PosShare TreeShare) (f : Buf (Elt F) ((c : Thread nD τ).loc cc0_scratch0)) :
    (holds c d q f : sProp 𝕄) = (((c : Thread nD τ).loc cc0_scratch0) ↦[page d]{q} f) := rfl

/-! ## The steps that use the exchange's semaphores -/

/-- Signalling the `k`-th peer's barrier, which hands it the device's own buffer's page for that peer. -/
theorem signal_step (c n : Dev nD) (k : Fin 3) (hn : n = peer k c) (w : ℕ) (hw : w = 1)
    {α : Type} {Q : α → sProp 𝕄} {kt : PUnit → Prog (TpuEff nD τ sig (Elt F) Λ₀ .tc) α}
    (f : Buf (Elt F) ((c : Thread nD τ).loc cc0_scratch0)) (O : CellTallies nD τ sig Unit) (W : Waits sig Unit) :
    iprop(records m ρ K ∗ owes (c : Thread nD τ) (O + oweB k c) W ∗ dutyTok EX (barCell (peer k c)) 0 k ∗ holds c (peer k c) fullShare f)
      ⊢ iprop((owes (c : Thread nD τ) O W -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (n : Thread nD τ) barS w) kt) Q) := by
  subst hn hw
  iintro ⟨#HR, HO, Ht, Hp⟩
  iapply (Rounds.wp_signal 𝒱₀ EX (plan m ρ) (c : Thread nD τ) none (dst := (peer k c : Thread nD τ)) (κ := K (peer k c, 0))
      (d := k) (r := 0) (Finset.mem_univ k) rfl () O rfl)
  isplitr; · iapply (inv_bar m ρ K (peer k c)); iexact HR
  isplitl [HO]; · iexact HO
  isplitl [Ht]; · iexact Ht
  isplitl [Hp]
  · rw [payload_bar, peer_back]; iexists f; iexact Hp
  · iapply (begun_bar m ρ K (peer k c)); iexact HR

theorem amount_page (c : Dev nD) (s : DmaSem sig) : (pageM c : Memref sig .tc .vmem S256x8 .bf16).view.amount (.dma s) = N := rfl
theorem amount_snd (k : Fin 3) (c : Dev nD) : (plan m ρ).amount (sndCell k c) 0 0 = N := rfl
theorem amount_rcv (k : Fin 3) (c : Dev nD) : (plan m ρ).amount (rcvCell k c) 0 0 = N := rfl

/-- The share lent to a send is what its completion gives back. -/
theorem lent (c : Dev nD) (k : Fin 3) : (((c : Thread nD τ).loc cc0_scratch0) ↦[page c]{part k} gathered m ρ c)
    ⊢ (plan m ρ).payload (sndCell k c) 0 0 := by
  rw [payload_snd]; exact BI.Entails.refl _

/-- A peer's page overwritten by the sender's own is what that peer's receive semaphore gives. -/
theorem landed (c : Dev nD) (k : Fin 3) (fn : Buf (Elt F) ((peer k c : Thread nD τ).loc cc0_scratch0)) :
    (((peer k c : Thread nD τ).loc cc0_scratch0) ↦[page c]{fullShare}
        (pageM c : Memref sig .tc .vmem S256x8 .bf16).view.write (Elt F) fn ((pageM c : Memref sig .tc .vmem S256x8 .bf16).view.read (Elt F) (gathered m ρ c)) Finset.univ)
      ⊢ (plan m ρ).payload (rcvCell k (peer k c)) 0 0 := by
  rw [payload_rcv, peer_back, gathered_peer]
  unfold holds
  refine Entails.of_eq (pointsTo_congr fun i hi => ?_)
  rw [View.write_read_eq_piecewise]
  exact Finset.piecewise_eq_of_mem _ _ _ hi

/-- Sending the device's own page to the `k`-th peer, from everything the transfer needs. -/
theorem send_raw (c n : Dev nD) (k : Fin 3) (hn : n = peer k c) (sS sR : DmaSem sig) (hS : sS = sndS k) (hR : sR = rcvS k)
    {hsc : (pageM c : Memref sig (Dev.tc n : Thread nD τ).2.kind .vmem S256x8 .bf16).view.ref.isScScratch = false}
    {hsrc : (pageM c : Memref sig .tc .vmem S256x8 .bf16).view.WordExact} {hdst : (pageM c : Memref sig .tc .vmem S256x8 .bf16).view.WordExact}
    {hsem : DmaTarget.Typed .vmem (.dma sR) (.remote (Dev.tc n : Thread nD τ) (pageM c : Memref sig .tc .vmem S256x8 .bf16) (.dma sS) hsc)}
    {α : Type} {Q : α → sProp 𝕄} {kt : PUnit → Prog (TpuEff nD τ sig (Elt F) Λ₀ .tc) α}
    (fn : Buf (Elt F) ((peer k c : Thread nD τ).loc cc0_scratch0)) (O : CellTallies nD τ sig Unit) (W : Waits sig Unit) :
    iprop(cellInv EX (plan m ρ) (K (c, sndI k)) (sndCell k c) ∗ cellInv EX (plan m ρ) (K (peer k c, rcvI k)) (rcvCell k (peer k c))
        ∗ (((c : Thread nD τ).loc cc0_scratch0) ↦[page c]{part k} gathered m ρ c)
        ∗ (((peer k c : Thread nD τ).loc cc0_scratch0) ↦[page c]{fullShare} fn)
        ∗ owes (c : Thread nD τ) (O + oweR k c) W
        ∗ dutyTok EX (sndCell k c) 0 (0 : Fin 3) ∗ reached EX (sndCell k c) 0
        ∗ dutyTok EX (rcvCell k (peer k c)) 0 (0 : Fin 3) ∗ reached EX (rcvCell k (peer k c)) 0)
      ⊢ iprop(((cred (tallyAt (sndCell k c) () N) ∗ owes (c : Thread nD τ) O W) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (pageM c) (.remote (Dev.tc n : Thread nD τ) (pageM c) (.dma sS) hsc) (.dma sR) hsrc hdst hsem) kt) Q) := by
  subst hn hS hR
  have h := Rounds.wp_send_pointsTo (defs := defs₀ (F := F)) 𝒱₀ EX (plan m ρ) (c : Thread nD τ) none (κ₁ := K (c, sndI k)) (κ₂ := K (peer k c, rcvI k))
    (Γ := PendingWaitsCtx.empty) (Es := Set.univ) (O₀ := O + oweR k c) (Q := Q) (k := kt) (hsc := hsc) (hsrc := hsrc) (hdst := hdst) (hsem := hsem)
    (fs := gathered m ρ c) (q := part k) (r₁ := 0) (r₂ := 0) (d₁ := 0) (d₂ := 0) (fd := fn)
    (by rw [duties_snd]; exact Finset.mem_singleton_self _) (by rw [duties_rcv]; exact Finset.mem_singleton_self _)
    () () N (amount_page c _) (amount_snd m ρ k c) (amount_rcv m ρ k (peer k c)) O rfl (W := W) (lent m ρ c k) (landed m ρ c k fn)
    (Topo.routes_iff.mpr (Or.inr (Or.inl ⟨rfl, rfl⟩)))
  exact h

/-- Sending the device's own page to the `k`-th peer. -/
theorem send_step (c n : Dev nD) (k : Fin 3) (hn : n = peer k c) (sS sR : DmaSem sig) (hS : sS = sndS k) (hR : sR = rcvS k)
    {hsc : (pageM c : Memref sig (Dev.tc n : Thread nD τ).2.kind .vmem S256x8 .bf16).view.ref.isScScratch = false}
    {hsrc : (pageM c : Memref sig .tc .vmem S256x8 .bf16).view.WordExact} {hdst : (pageM c : Memref sig .tc .vmem S256x8 .bf16).view.WordExact}
    {hsem : DmaTarget.Typed .vmem (.dma sR) (.remote (Dev.tc n : Thread nD τ) (pageM c : Memref sig .tc .vmem S256x8 .bf16) (.dma sS) hsc)}
    {α : Type} {Q : α → sProp 𝕄} {kt : PUnit → Prog (TpuEff nD τ sig (Elt F) Λ₀ .tc) α}
    (fn : Buf (Elt F) ((peer k c : Thread nD τ).loc cc0_scratch0)) (O : CellTallies nD τ sig Unit) (W : Waits sig Unit) :
    iprop(records m ρ K ∗ holds c c (part k) (gathered m ρ c) ∗ holds (peer k c) c fullShare fn
        ∗ owes (c : Thread nD τ) (O + oweR k c) W
        ∗ dutyTok EX (sndCell k c) 0 (0 : Fin 3) ∗ dutyTok EX (rcvCell k (peer k c)) 0 (0 : Fin 3))
      ⊢ iprop(((cred (tallyAt (sndCell k c) () N) ∗ owes (c : Thread nD τ) O W) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (pageM c) (.remote (Dev.tc n : Thread nD τ) (pageM c) (.dma sS) hsc) (.dma sR) hsrc hdst hsem) kt) Q) := by
  refine BIBase.Entails.trans ?_ (send_raw m ρ K c n k hn sS sR hS hR fn O W)
  unfold holds
  iintro ⟨#HR, Hsrc, Hdst, HO, HtS, HtR⟩
  isplitr; · iapply (inv_snd m ρ K k c); iexact HR
  isplitr; · iapply (inv_rcv m ρ K k (peer k c)); iexact HR
  isplitl [Hsrc]; · iexact Hsrc
  isplitl [Hdst]; · iexact Hdst
  isplitl [HO]; · iexact HO
  isplitl [HtS]; · iexact HtS
  isplitr; · iapply (begun_snd m ρ K k c); iexact HR
  isplitl [HtR]; · iexact HtR
  iapply (begun_rcv m ρ K k (peer k c)); iexact HR

/-- A page of the gather buffer named by its offsets, as a wait names it. -/
abbrev pageAt (o : Fin 3 → Nat) (ho : ∀ a, o a + S1x256x8.size a ≤ S4x256x8.size a) : Memref sig .tc .vmem S256x8 .bf16 :=
  (gatM.slice (Rect.unit (s := S4x256x8) o S1x256x8.size ho) (fun _ => rfl)).squeeze S256x8 squeezes_S1x256x8_S256x8

theorem credit_pageAt (o : Fin 3 → Nat) (ho : ∀ a, o a + S1x256x8.size a ≤ S4x256x8.size a) : (pageAt o ho).view.dmaCredit = N := rfl

/-- Waiting for the page that arrives on the `k`-th receive semaphore, owing nothing. -/
theorem receive_step (c : Dev nD) (k : Fin 3) (sR : DmaSem sig) (hR : sR = rcvS k) {o : Fin 3 → Nat} {ho : ∀ a, o a + S1x256x8.size a ≤ S4x256x8.size a}
    {hsrc : (pageAt o ho).view.WordExact} {hdst : (pageAt o ho).view.WordExact}
    {α : Type} {Q : α → sProp 𝕄} {kt : PUnit → Prog (TpuEff nD τ sig (Elt F) Λ₀ .tc) α} (W : Waits sig Unit) :
    iprop(records m ρ K ∗ cred (tallyAt (rcvCell k c) () N) ∗ owes (c : Thread nD τ) 0 W ∗ atPos EX (rcvCell k c) 0 ∅ 0)
      ⊢ iprop(((owes (c : Thread nD τ) 0 (insert (.dma (rcvS k), ()) W) ∗ atPos EX (rcvCell k c) (0 + 1) ∅ 0 ∗ holds c (peer (back k) c) fullShare (gathered m ρ c))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sR (pageAt o ho) (pageAt o ho) hsrc hdst) kt) Q) := by
  subst hR
  iintro ⟨#HR, Hc, HO, Ha⟩ Hk
  iapply (Rounds.wp_wait_rest_token 𝒱₀ EX (plan m ρ) (c : Thread nD τ) none (κ := K (c, rcvI k))
      (wpE_waitDma2_eq 𝒱₀ (c : Thread nD τ) none Set.univ) (Set.mem_univ _) () (O := 0) (W := W) (R := 0) (m := 0) (T := ∅)
      (by rw [credit_pageAt, Nat.zero_add, expect_rcv])) $$ [Hc HO Ha]
  · isplitr; · iapply (inv_rcv m ρ K k c); iexact HR
    isplitl [Hc]; · rw [credit_pageAt]; iexact Hc
    isplitl [HO]; · iexact HO
    isplitr; · rw [MayWait_zero]; iempintro
    iexact Ha
  iintro ⟨HO, Ha, -, Hp⟩
  iapply Hk
  isplitl [HO]; · iexact HO
  isplitl [Ha]; · iexact Ha
  iapply (Entails.of_eq (rest_rcv m ρ c k)); iexact Hp

/-- Waiting for the `k`-th send to complete, which returns the share lent to it. -/
theorem sent_step (c : Dev nD) (k : Fin 3) (sS : DmaSem sig) (hS : sS = sndS k) {o : Fin 3 → Nat} {ho : ∀ a, o a + S1x256x8.size a ≤ S4x256x8.size a}
    {hsrc : (pageAt o ho).view.WordExact} {hdst : (pageAt o ho).view.WordExact}
    {α : Type} {Q : α → sProp 𝕄} {kt : PUnit → Prog (TpuEff nD τ sig (Elt F) Λ₀ .tc) α} (W : Waits sig Unit) :
    iprop(records m ρ K ∗ cred (tallyAt (sndCell k c) () N) ∗ owes (c : Thread nD τ) 0 W ∗ atPos EX (sndCell k c) 0 ∅ 0)
      ⊢ iprop(((owes (c : Thread nD τ) 0 (insert (.dma (sndS k), ()) W) ∗ atPos EX (sndCell k c) (0 + 1) ∅ 0 ∗ holds c c (part k) (gathered m ρ c))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sS (pageAt o ho) (pageAt o ho) hsrc hdst) kt) Q) := by
  subst hS
  iintro ⟨#HR, Hc, HO, Ha⟩ Hk
  iapply (Rounds.wp_wait_rest_token 𝒱₀ EX (plan m ρ) (c : Thread nD τ) none (κ := K (c, sndI k))
      (wpE_waitDma2_eq 𝒱₀ (c : Thread nD τ) none Set.univ) (Set.mem_univ _) () (O := 0) (W := W) (R := 0) (m := 0) (T := ∅)
      (by rw [credit_pageAt, Nat.zero_add, expect_snd])) $$ [Hc HO Ha]
  · isplitr; · iapply (inv_snd m ρ K k c); iexact HR
    isplitl [Hc]; · rw [credit_pageAt]; iexact Hc
    isplitl [HO]; · iexact HO
    isplitr; · rw [MayWait_zero]; iempintro
    iexact Ha
  iintro ⟨HO, Ha, -, Hp⟩
  iapply Hk
  isplitl [HO]; · iexact HO
  isplitl [Ha]; · iexact Ha
  iapply (Entails.of_eq (rest_snd m ρ c k)); iexact Hp

/-- A semaphore whose one round is over has its counter back at zero. -/
theorem close_step (x : Dev nD × Fin 7) : iprop(records m ρ K ∗ atPos EX (cell x) (0 + 1) ∅ 0) ⊢ |={Set.univ}=> semVal (cell x) 0 := by
  iintro ⟨#HR, Ha⟩
  iapply (Rounds.cell_close EX (plan m ρ) (Set.mem_univ (K x)) (fun h => h) (R := 0 + 1) (duties_later m ρ (cell x)))
  isplitr; · iapply (inv_of m ρ K x); iexact HR
  iexact Ha

/-- Waiting for the three signals at the device's own barrier, which hand it its page at each of its peers. -/
theorem barrier_step (c : Dev nD) (w : ℕ) (hw : w = 3)
    {α : Type} {Q : α → sProp 𝕄} {kt : PUnit → Prog (TpuEff nD τ sig (Elt F) Λ₀ .tc) α} (W : Waits sig Unit) :
    iprop(records m ρ K ∗ levAts L lv ∗ cred (tallyAt (barCell c) () 3) ∗ owes (c : Thread nD τ) (O₁ c) W ∗ atPos EX (barCell c) 0 ∅ 0)
      ⊢ iprop(((owes (c : Thread nD τ) (O₁ c) (insert (.reg barS, ()) W) ∗ atPos EX (barCell c) (0 + 1) ∅ 0
              ∗ (∃ f, holds (peer 2 c) c fullShare f) ∗ (∃ f, holds (peer 1 c) c fullShare f) ∗ (∃ f, holds (peer 0 c) c fullShare f))
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait barS w) kt) Q) := by
  subst hw
  iintro ⟨#HR, #Hlev, Hc, HO, Ha⟩ Hk
  iapply (Rounds.wp_wait_rest_token 𝒱₀ EX (plan m ρ) (c : Thread nD τ) none (κ := K (c, 0))
      (wpE_semWait_eq 𝒱₀ (c : Thread nD τ) none Set.univ) (Set.mem_univ _) () (O := O₁ c) (W := W) (R := 0) (m := 0) (T := ∅)
      (by rw [expect_bar])) $$ [Hc HO Ha]
  · isplitr; · iapply (inv_bar m ρ K c); iexact HR
    isplitl [Hc]; · iexact Hc
    isplitl [HO]; · iexact HO
    isplitr; · iapply (mayWait_bar c); iexact Hlev
    iexact Ha
  iintro ⟨HO, Ha, -, Hp⟩
  iapply Hk
  isplitl [HO]; · iexact HO
  isplitl [Ha]; · iexact Ha
  iapply (Entails.of_eq (rest_bar m ρ c)); iexact Hp

/-! ## The body from start to end -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body holds of the pipeline when it begins: its debts and the two staging buffers. -/
def bodyWins (c : Dev nD) : sProp 𝕄 :=
  iprop((dats m ρ 0 c).owesAt () pt.castSucc
    ∗ (∃ d, stg c cc0_stg0_0 ((dats m ρ 0 c).before (0 : Fin 2) pt d))
    ∗ (∃ d, stg c cc0_stg1_0 ((dats m ρ 0 c).before (1 : Fin 2) pt d)))

def bodyPost (c : Dev nD) : sProp 𝕄 :=
  iprop(Φ₁ m ρ c ∗ (dats m ρ 0 c).owesAt () pt.succ ∗ stg c cc0_stg0_0 (blk m ρ c) ∗ stg c cc0_stg1_0 (result m ρ c))

theorem fetch_in (t : Fin cfg0.N) : (cfg0.win 0).fetch t = true := by rw [eq_pt t]; rfl

set_option maxHeartbeats 4000000 in
theorem sound_body (c : Dev nD) (Kt : PUnit → sProp 𝕄) :
    iprop(Φ₀ m ρ c ∗ bodyWins m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  unfold Φ₀ start bodyWins ghost places dues
  rw [bigSep_seven]
  iintro ⟨⟨⟨⟨%K, #HR, ⟨Ha0, Ha1, Ha2, Ha3, Ha4, Ha5, Ha6⟩, ⟨HtB0, HtV0, HtS0⟩, ⟨HtB1, HtV1, HtS1⟩, HtB2, HtV2, HtS2⟩,
    ⟨HcB, HcV0, HcV1, HcV2⟩, #Hlev⟩, ⟨%f, Hg⟩⟩, ⟨Ho, ⟨%d0, %g0, %hg0, Hx⟩, ⟨%d1, %g1, %hg1, Hout⟩⟩, Hk⟩
  have hx : g0 = blk m ρ c := by rw [hg0]; unfold Dat.before; rw [if_pos (fetch_in pt)]; rfl
  subst hx
  unfold Dat.owesAt Pipeline.owesWithin
  icases Ho with ⟨%W, %hW, HO⟩
  rw [show (dats m ρ 0 c).owed pt.castSucc = O₀ c from rfl]
  -- the buffer falls into its four pages; each peer is signalled and given its own
  ihave Hp := (holds_all c f).1 $$ Hg
  icases Hp with ⟨Hown, Hp0, Hp1, Hp2⟩
  unfold O₀
  iapply (signal_step m ρ K c _ 0 (dev1_eq c) _ rfl f (O₁ c + oweB 2 c + oweB 1 c) W) $$ [HO HtB0 Hp0]
  · isplitr; · iexact HR
    isplitl [HO]; · iexact HO
    isplitl [HtB0]; · iexact HtB0
    iexact Hp0
  iintro HO
  iapply (signal_step m ρ K c _ 1 (dev2_eq c) _ rfl f (O₁ c + oweB 2 c) W) $$ [HO HtB1 Hp1]
  · isplitr; · iexact HR
    isplitl [HO]; · iexact HO
    isplitl [HtB1]; · iexact HtB1
    iexact Hp1
  iintro HO
  iapply (signal_step m ρ K c _ 2 (dev3_eq c) _ rfl f (O₁ c) W) $$ [HO HtB2 Hp2]
  · isplitr; · iexact HR
    isplitl [HO]; · iexact HO
    isplitl [HtB2]; · iexact HtB2
    iexact Hp2
  iintro HO
  iapply (barrier_step m ρ K c _ rfl W) $$ [HcB HO Ha0]
  · isplitr; · iexact HR
    isplitr; · iexact Hlev
    isplitl [HcB]; · iexact HcB
    isplitl [HO]; · iexact HO
    iexact Ha0
  iintro ⟨HO, Ha0, ⟨%f2, Hq2⟩, ⟨%f1, Hq1⟩, ⟨%f0, Hq0⟩⟩
  -- the block is read, and its eight largest values go into the device's own page
  iapply (wp_load 𝒱₀ (c : Thread nD τ) none Set.univ (m := inM) (Finset.subset_univ _)) $$ Hx; iintro Hx
  rw [read_in]
  ihave Hown := (Entails.of_eq (holds_def c c fullShare f)) $$ Hown
  iapply (wp_load_rect 𝒱₀ (c : Thread nD τ) none Set.univ (m := gatM) (r := pageR c) (S := page c) (Finset.subset_of_eq (pageR_set c))) $$ Hown; iintro Hown
  iapply (wp_store 𝒱₀ (c : Thread nD τ) none Set.univ (m := gatM) (r := pageR c) (Mk := Finset.univ) (S := page c) (Finset.subset_of_eq (pageR_set c))) $$ Hown
  iintro Hown
  ihave Hown := (Entails.of_eq (pointsTo_congr (write_page m ρ c f))) $$ Hown
  -- the page is sent to the three peers, a share of it lent to each send
  ihave Hown' := (holds_parts c c (gathered m ρ c)).1 $$ [Hown]
  · unfold holds; iexact Hown
  icases Hown' with ⟨Hl0, Hl1, Hl2⟩
  unfold O₁
  iapply (send_step m ρ K c _ 0 (dev4_eq c) _ _ rfl rfl f0 (oweR 2 c + oweR 1 c) (insert (SemLoc.reg barS, ()) W)) $$ [Hl0 Hq0 HO HtS0 HtV0]
  · isplitr; · iexact HR
    isplitl [Hl0]; · iexact Hl0
    isplitl [Hq0]; · iexact Hq0
    isplitl [HO]; · iexact HO
    isplitl [HtS0]; · iexact HtS0
    iexact HtV0
  iintro ⟨HcS0, HO⟩
  iapply (send_step m ρ K c _ 1 (dev5_eq c) _ _ rfl rfl f1 (oweR 2 c) (insert (SemLoc.reg barS, ()) W)) $$ [Hl1 Hq1 HO HtS1 HtV1]
  · isplitr; · iexact HR
    isplitl [Hl1]; · iexact Hl1
    isplitl [Hq1]; · iexact Hq1
    isplitl [HO]; · iexact HO
    isplitl [HtS1]; · iexact HtS1
    iexact HtV1
  iintro ⟨HcS1, HO⟩
  rw [show oweR 2 c = 0 + oweR 2 c from (zero_add _).symm]
  iapply (send_step m ρ K c _ 2 (dev6_eq c) _ _ rfl rfl f2 (0) (insert (SemLoc.reg barS, ()) W)) $$ [Hl2 Hq2 HO HtS2 HtV2]
  · isplitr; · iexact HR
    isplitl [Hl2]; · iexact Hl2
    isplitl [Hq2]; · iexact Hq2
    isplitl [HO]; · iexact HO
    isplitl [HtS2]; · iexact HtS2
    iexact HtV2
  iintro ⟨HcS2, HO⟩
  -- three pages arrive, and the three sends complete
  iapply (receive_step m ρ K c 0 _ rfl _) $$ [HcV0 HO Ha4]
  · isplitr; · iexact HR
    isplitl [HcV0]; · iexact HcV0
    isplitl [HO]; · iexact HO
    iexact Ha4
  iintro ⟨HO, Ha4, Hr0⟩
  iapply (receive_step m ρ K c 1 _ rfl _) $$ [HcV1 HO Ha5]
  · isplitr; · iexact HR
    isplitl [HcV1]; · iexact HcV1
    isplitl [HO]; · iexact HO
    iexact Ha5
  iintro ⟨HO, Ha5, Hr1⟩
  iapply (receive_step m ρ K c 2 _ rfl _) $$ [HcV2 HO Ha6]
  · isplitr; · iexact HR
    isplitl [HcV2]; · iexact HcV2
    isplitl [HO]; · iexact HO
    iexact Ha6
  iintro ⟨HO, Ha6, Hr2⟩
  iapply (sent_step m ρ K c 0 _ rfl _) $$ [HcS0 HO Ha1]
  · isplitr; · iexact HR
    isplitl [HcS0]; · iexact HcS0
    isplitl [HO]; · iexact HO
    iexact Ha1
  iintro ⟨HO, Ha1, Hl0⟩
  iapply (sent_step m ρ K c 1 _ rfl _) $$ [HcS1 HO Ha2]
  · isplitr; · iexact HR
    isplitl [HcS1]; · iexact HcS1
    isplitl [HO]; · iexact HO
    iexact Ha2
  iintro ⟨HO, Ha2, Hl1⟩
  iapply (sent_step m ρ K c 2 _ rfl _) $$ [HcS2 HO Ha3]
  · isplitr; · iexact HR
    isplitl [HcS2]; · iexact HcS2
    isplitl [HO]; · iexact HO
    iexact Ha3
  iintro ⟨HO, Ha3, Hl2⟩
  -- the buffer is whole again, and full
  ihave Hown := (holds_parts c c (gathered m ρ c)).2 $$ [Hl0 Hl1 Hl2]
  · isplitl [Hl0]; · iexact Hl0
    isplitl [Hl1]; · iexact Hl1
    iexact Hl2
  ihave Hg := (holds_all c (gathered m ρ c)).2 $$ [Hown Hr0 Hr1 Hr2]
  · isplitl [Hown]; · iexact Hown
    isplitl [Hr2]; · iexact Hr2
    isplitl [Hr1]; · iexact Hr1
    iexact Hr0
  iapply (wp_load 𝒱₀ (c : Thread nD τ) none Set.univ (m := gatM) (Finset.subset_univ _)) $$ Hg; iintro Hg
  rw [read_gat]
  iapply (wp_load 𝒱₀ (c : Thread nD τ) none Set.univ (m := outM) (Finset.subset_univ _)) $$ Hout; iintro Hout
  iapply (wp_store 𝒱₀ (c : Thread nD τ) none Set.univ (m := outM) (r := rOut) (Mk := Finset.univ) (Finset.subset_univ _)) $$ Hout; iintro Hout
  imod (close_step m ρ K (c, 0)) $$ [Ha0] with Hz0
  · isplitr; · iexact HR
    iexact Ha0
  imod (close_step m ρ K (c, 1)) $$ [Ha1] with Hz1
  · isplitr; · iexact HR
    iexact Ha1
  imod (close_step m ρ K (c, 2)) $$ [Ha2] with Hz2
  · isplitr; · iexact HR
    iexact Ha2
  imod (close_step m ρ K (c, 3)) $$ [Ha3] with Hz3
  · isplitr; · iexact HR
    iexact Ha3
  imod (close_step m ρ K (c, 4)) $$ [Ha4] with Hz4
  · isplitr; · iexact HR
    iexact Ha4
  imod (close_step m ρ K (c, 5)) $$ [Ha5] with Hz5
  · isplitr; · iexact HR
    iexact Ha5
  imod (close_step m ρ K (c, 6)) $$ [Ha6] with Hz6
  · isplitr; · iexact HR
    iexact Ha6
  rw [write_out, wp_ret]; imodintro
  iapply Hk
  unfold bodyPost Φ₁ Dat.owesAt Pipeline.owesWithin
  rw [show (dats m ρ 0 c).owed pt.succ = 0 from rfl, bigSep_seven]
  isplitl [Hg Hz0 Hz1 Hz2 Hz3 Hz4 Hz5 Hz6]
  · isplitl [Hg]; · iexact Hg
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  isplitl [HO]
  · iexists _
    isplitr; rotate_left
    · iexact HO
    · ipureintro; exact fun _ _ => Or.inl trivial
  isplitl [Hx]
  · iexists _; isplitr; · (ipureintro; rfl)
    iexact Hx
  iexists _; isplitr; · (ipureintro; rfl)
  iexact Hout

/-! ## What the launch asks of the body -/

set_option maxRecDepth 4000 in
theorem body_obligation (c : Dev nD) : BodyObligation (dats (F := F) m ρ 0 c) (defs₀ (F := F)) 𝒱₀ () Set.univ := fun t => by
  rw [eq_pt t]
  rw [bigSep_wins, bigSep_wins]
  simp only [owns_whole]
  show iprop(Φ₀ m ρ c ∗ bodyWins m ρ c) ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  iintro ⟨H1, H2⟩
  iapply (sound_body m ρ c fun _ => bodyPost m ρ c)
  isplitl [H1]; · iexact H1
  isplitl [H2]; · iexact H2
  iintro H; iexact H

end Cert.TopEight

end
-- ==== Proof.Launch.lean ====
/-
# The launch of the exchange

From zero counters and any memory, all devices together: the semaphores' invariants are set up, the tokens of the
duties are dealt to those who pay them, and every execution ends with the results in place.
-/
module

public import proofs.«01_k».proof.Proof.Body
public import Idealize.ShloMosaic.Lib.Pipeline.CollectiveSegs

@[expose] public section

noncomputable section

namespace Cert.TopEight

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem own_sems : Pipeline.OwnSemFacts cfg0.spec osem := by decide

theorem share_full (c : Dev nD) (w : Fin cfg0.W) : (dats m ρ 0 c).share w = fullShare := by unfold Dat.share; split <;> rfl

/-! ## The cells and the tokens -/

theorem csem_inj : ∀ i j : Fin 7, csem i = csem j → i = j := by decide

theorem cell_inj : Function.Injective (cell : Dev nD × Fin 7 → GSem nD τ sig) := fun x y h =>
  Prod.ext (congrArg (fun g : GSem nD τ sig => g.1.1) h) (csem_inj _ _ (congrArg (fun g : GSem nD τ sig => g.2) h))

def allCells : Finset (GSem nD τ sig) := Finset.univ.map ⟨cell, cell_inj⟩

/-- The semaphore and the name of a duty: the `k`-th of a barrier, of the `k`-th receive, of the `k`-th send. -/
def dutySem (x : Fin 3 × Fin 3) : SemLoc sig := match x.2 with
  | 0 => .reg barS | 1 => .dma (rcvS x.1) | 2 => .dma (sndS x.1)
def dutyName (x : Fin 3 × Fin 3) : Fin 3 := match x.2 with
  | 0 => x.1 | 1 => 0 | 2 => 0

theorem duty_inj : ∀ x y : Fin 3 × Fin 3, dutySem x = dutySem y → dutyName x = dutyName y → x = y := by decide

def tokOf (x : Dev nD × (Fin 3 × Fin 3)) : GSem nD τ sig × ℕ × Fin 3 := (((x.1 : Thread nD τ), dutySem x.2), 0, dutyName x.2)

theorem tokOf_inj : Function.Injective tokOf := fun x y h =>
  Prod.ext (congrArg (fun t : GSem nD τ sig × ℕ × Fin 3 => t.1.1.1) h)
    (duty_inj _ _ (congrArg (fun t : GSem nD τ sig × ℕ × Fin 3 => t.1.2) h) (congrArg (fun t : GSem nD τ sig × ℕ × Fin 3 => t.2.2) h))

def allToks : Finset (GSem nD τ sig × ℕ × Fin 3) := Finset.univ.map ⟨tokOf, tokOf_inj⟩

def u₀ : UU := (initOf (Pipeline.cells cfgs cellOf_inj) (Pipeline.launchToks cfgs cellOf_inj), initOf allCells allToks)

/-- The tokens minted at device `c`'s own semaphores for its duties numbered `k`. -/
def mints (k : Fin 3) (c : Dev nD) : sProp 𝕄 :=
  iprop(dutyTok EX (barCell c) 0 k ∗ dutyTok EX (rcvCell k c) 0 (0 : Fin 3) ∗ dutyTok EX (sndCell k c) 0 (0 : Fin 3))

/-- What the launch hands device `c`: its semaphores' rounds, its positions at them, the tokens minted at them. -/
def G (c : Dev nD) : sProp 𝕄 :=
  iprop((bigSep Finset.univ fun j : Fin 7 => roundState EX (plan m ρ) (cell (c, j)) 0)
    ∗ (places c ∗ bigSep Finset.univ fun j : Fin 7 => reached EX (cell (c, j)) 0) ∗ bigSep Finset.univ fun k : Fin 3 => mints k c)

def G' (c : Dev nD) : sProp 𝕄 := iprop(∃ K, ghost m ρ K c)

omit [FloatOps F] in
theorem bigSep_three' (Φ : Fin 3 → sProp 𝕄) : bigSep Finset.univ Φ = iprop(Φ 0 ∗ Φ 1 ∗ Φ 2) :=
  bigSep_univ_eq_bigSepL [0, 1, 2] (by decide) (by decide) Φ

theorem fund_exchange : BI.own (EX (initOf allCells allToks)) ⊢ (|==> bigSep Finset.univ (G m ρ) : sProp 𝕄) := by
  have hX (Φ : GSem nD τ sig → sProp 𝕄) : bigSep allCells Φ = bigSep Finset.univ fun c : Dev nD => bigSep Finset.univ fun j : Fin 7 => Φ (cell (c, j)) := by
    unfold allCells; rw [bigSep_map, bigSep_univ_prod]; rfl
  have hT : bigSep allToks (fun x => (dutyTok EX x.1 x.2.1 x.2.2 : sProp 𝕄))
      = bigSep Finset.univ fun c : Dev nD => bigSep Finset.univ fun k : Fin 3 => mints k c := by
    unfold allToks; rw [bigSep_map, bigSep_univ_prod]
    refine bigSep_congr fun c _ => ?_
    rw [bigSep_univ_prod]
    exact bigSep_congr fun k _ => by rw [bigSep_three']; rfl
  iintro HX
  imod (Rounds.fund EX (plan m ρ) allCells allToks) $$ HX with ⟨Hst, Hr, Hat, Htok⟩
  imodintro
  ihave Hst' := (Entails.of_eq (hX fun g => roundState EX (plan m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G places
  simp only [bigSep_sep']
  isplitl [Hst']; · iexact Hst'
  isplitl [Hat' Hr']
  · isplitl [Hat']; · iexact Hat'
    iexact Hr'
  iexact Htok'

omit [FloatOps F] in
theorem sems_own (c : Dev nD) : (Pipeline.ownSems0 (Ix := Unit) (Name := ℕ) (U := UU) (Lvl := ℕ) (Val := Elt F) (τ := τ) osem c : sProp 𝕄)
    = iprop(semVal (cell (c, 1)) 0 ∗ semVal (cell (c, 2)) 0 ∗ semVal (cell (c, 3)) 0 ∗ semVal (cell (c, 4)) 0 ∗ semVal (cell (c, 5)) 0 ∗ semVal (cell (c, 6)) 0) := by
  rw [Pipeline.ownSems0_eq_of_list c osem [0, 1, 2, 3, 4, 5] (by decide) (by decide)]; rfl

omit [FloatOps F] in
theorem sems_bar (c : Dev nD) : (unscopedSems0 c : sProp 𝕄) = semVal (cell (c, 0)) 0 := by
  unfold unscopedSems0; rw [bigSep_eq_bigSepL_of_eq [SemLoc.reg barS] (by decide) (by decide)]; rfl

omit [FloatOps F] in
/-- The barrier and the kernel's own six semaphores are the seven cells. -/
theorem sems_all (c : Dev nD) :
    iprop(unscopedSems0 c ∗ Pipeline.ownSems0 (Ix := Unit) (Name := ℕ) (U := UU) (Lvl := ℕ) (Val := Elt F) (τ := τ) osem c)
      = (bigSep Finset.univ fun j : Fin 7 => semVal (cell (c, j)) 0 : sProp 𝕄) := by
  rw [sems_own, sems_bar, bigSep_seven]

/-- One device's cells get their invariants. -/
theorem alloc_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j : Fin 7 => iprop(∃ κ : ℕ, cellInv EX (plan m ρ) κ (cell (c, j))))
          ∗ (places c ∗ bigSep Finset.univ fun j : Fin 7 => reached EX (cell (c, j)) 0) ∗ bigSep Finset.univ fun k : Fin 3 => mints k c) := by
  have hI : iprop((bigSep Finset.univ fun j : Fin 7 => semVal (cell (c, j)) 0) ∗ bigSep Finset.univ fun j : Fin 7 => roundState EX (plan m ρ) (cell (c, j)) 0)
      ⊢ (|={Set.univ}=> bigSep Finset.univ fun j : Fin 7 => iprop(∃ κ : ℕ, cellInv EX (plan m ρ) κ (cell (c, j))) : sProp 𝕄) := by
    rw [← bigSep_sep']
    exact (bigSep_mono fun j _ => (Rounds.body_intro EX (plan m ρ) (cell (c, j))).trans inv_alloc).trans (bigSep_fupd _ _)
  unfold G
  iintro ⟨Ho, Hu, Hst, Hat, Htok⟩
  ihave Hv := (Entails.of_eq (sems_all (F := F) c)) $$ [Ho Hu]
  · isplitl [Hu]; · iexact Hu
    iexact Ho
  imod hI $$ [Hv Hst] with Hinv
  · isplitl [Hv]; · iexact Hv
    iexact Hst
  imodintro
  isplitl [Hinv]; · iexact Hinv
  isplitl [Hat]; · iexact Hat
  iexact Htok

omit [FloatOps F] in
/-- The tokens go to those who pay the duties: a barrier's and a receive's to the peer that reaches it. -/
theorem deal (k : Fin 3) : (bigSep Finset.univ fun c : Dev nD => (mints k c : sProp 𝕄)) ⊢ bigSep Finset.univ fun c : Dev nD => dues c k := by
  unfold mints dues
  rw [bigSep_sep', bigSep_sep', bigSep_sep', bigSep_sep',
    bigSep_univ_equiv (turn k) (fun c : Dev nD => (dutyTok EX (barCell c) 0 k : sProp 𝕄)),
    bigSep_univ_equiv (turn k) (fun c : Dev nD => (dutyTok EX (rcvCell k c) 0 (0 : Fin 3) : sProp 𝕄))]
  exact BI.Entails.refl _

omit [FloatOps F] in
theorem deal_all : (bigSep Finset.univ fun c : Dev nD => bigSep Finset.univ fun k : Fin 3 => (mints k c : sProp 𝕄))
    ⊢ bigSep Finset.univ fun c : Dev nD => iprop(dues c 0 ∗ dues c 1 ∗ dues c 2) := by
  simp only [bigSep_three', bigSep_sep']
  iintro ⟨H0, H1, H2⟩
  isplitl [H0]; · iapply (deal (F := F) 0); iexact H0
  isplitl [H1]; · iapply (deal (F := F) 1); iexact H1
  iapply (deal (F := F) 2); iexact H2

omit [FloatOps F] in
/-- What holds for good may be used for every device. -/
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j : Fin 7 => iprop(∃ κ : ℕ, cellInv EX (plan m ρ) κ (cell (c, j))))
          ∗ (places c ∗ bigSep Finset.univ fun j : Fin 7 => reached EX (cell (c, j)) 0) ∗ bigSep Finset.univ fun k : Fin 3 => mints k c) : sProp 𝕄)
      ⊢ bigSep Finset.univ (G' m ρ) := by
  rw [bigSep_sep', bigSep_sep', ← bigSep_univ_prod (fun x : Dev nD × Fin 7 => iprop(∃ κ : ℕ, cellInv EX (plan m ρ) κ (cell x))),
    bigSep_sep', ← bigSep_univ_prod (fun x : Dev nD × Fin 7 => (reached EX (cell x) 0 : sProp 𝕄))]
  iintro ⟨HI, ⟨Hat, #HR⟩, Htok⟩
  ihave HK := (BI.bigSep_exists_pi Finset.univ (fun (x : Dev nD × Fin 7) (κ : ℕ) => (cellInv EX (plan m ρ) κ (cell x) : sProp 𝕄))) $$ HI
  icases HK with ⟨%K, #HI⟩
  ihave Htk := (deal_all (F := F)) $$ Htok
  iapply (bigSep_using (R := records m ρ K) (Φ := fun c => iprop(places c ∗ dues c 0 ∗ dues c 1 ∗ dues c 2)) fun c _ => by
    unfold G' ghost; iintro H; iexists K; iexact H)
  isplitr
  · unfold records; isplitl; · iexact HI
    iexact HR
  · iapply (Entails.of_eq (bigSep_sep' Finset.univ (fun c : Dev nD => (places c : sProp 𝕄)) fun c => iprop(dues c 0 ∗ dues c 1 ∗ dues c 2)).symm)
    isplitl [Hat]; · iexact Hat
    iexact Htk

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc_cells m ρ c).trans (bigSep_fupd _ _)).trans (BI.fupd_mono (regroup m ρ))

/-! ## The credit a device starts with -/

theorem bar_ne_rcv (k : Fin 3) (c d : Dev nD) : barCell c ≠ rcvCell k d := fun h => by
  have := congrArg Prod.snd h; cases this

theorem bar_at (k : Fin 3) (d c : Dev nD) : oweB k d (barCell c) () = if d = peer (back k) c then 1 else 0 := by
  rw [tallyAt_apply]
  refine if_congr ⟨fun h => ?_, fun h => ⟨?_, rfl⟩⟩ rfl rfl
  · have e : c = peer k d := congrArg (fun g : GSem nD τ sig => g.1.1) h.1
    rw [e, peer_back]
  · rw [h, back_peer]

theorem rcvS_inj : ∀ k k' : Fin 3, (SemLoc.dma (rcvS k) : SemLoc sig) = .dma (rcvS k') → k = k' := by decide

theorem rcv_at (k k' : Fin 3) (d c : Dev nD) : oweR k' d (rcvCell k c) () = if k' = k ∧ d = peer (back k) c then N else 0 := by
  rw [tallyAt_apply]
  refine if_congr ⟨fun h => ?_, fun h => ⟨?_, rfl⟩⟩ rfl rfl
  · have ek : k = k' := rcvS_inj _ _ (congrArg (fun g : GSem nD τ sig => g.2) h.1)
    have e : c = peer k' d := congrArg (fun g : GSem nD τ sig => g.1.1) h.1
    subst ek
    rw [e, peer_back]
    exact ⟨rfl, rfl⟩
  · rw [h.1, h.2, back_peer]

theorem bar_off (k k' : Fin 3) (d c : Dev nD) : oweB k' d (rcvCell k c) () = 0 := by
  rw [tallyAt_apply, if_neg fun h => bar_ne_rcv _ _ _ h.1.symm]
theorem rcv_off (k' : Fin 3) (d c : Dev nD) : oweR k' d (barCell c) () = 0 := by
  rw [tallyAt_apply, if_neg fun h => bar_ne_rcv _ _ _ h.1]

theorem owed_bar (d c : Dev nD) : O₀ d (barCell c) ()
    = (if d = peer (back 2) c then 1 else 0) + (if d = peer (back 1) c then 1 else 0) + (if d = peer (back 0) c then 1 else 0) := by
  unfold O₀ O₁
  rw [Pi.add_apply, Finsupp.add_apply, Pi.add_apply, Finsupp.add_apply, Pi.add_apply, Finsupp.add_apply, Pi.add_apply, Finsupp.add_apply,
    Pi.add_apply, Finsupp.add_apply, rcv_off, rcv_off, rcv_off, bar_at, bar_at, bar_at]; simp only [Nat.zero_add]

theorem owed_rcv (k : Fin 3) (d c : Dev nD) : O₀ d (rcvCell k c) () = if d = peer (back k) c then N else 0 := by
  unfold O₀ O₁
  rw [Pi.add_apply, Finsupp.add_apply, Pi.add_apply, Finsupp.add_apply, Pi.add_apply, Finsupp.add_apply, Pi.add_apply, Finsupp.add_apply,
    Pi.add_apply, Finsupp.add_apply, bar_off, bar_off, bar_off, rcv_at, rcv_at, rcv_at]
  simp only [Nat.add_zero]
  generalize N = n
  by_cases h : d = peer (back k) c
  · simp only [h, and_true, if_true]; revert k; intro k _; fin_cases k <;> simp
  · simp only [h, and_false, if_false]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]

theorem launch_rcv (k : Fin 3) (c : Dev nD) :
    tallyOn (rcvCell k c) (launchCredit (Pipeline.owing O₀) 0 (rcvCell k c)) = (tallyAt (rcvCell k c) () N : CellTallies nD τ sig Unit) := by
  unfold tallyAt; refine congrArg _ (Finsupp.ext fun u => ?_); cases u
  rw [Pipeline.launchCredit_owing, Finsupp.single_eq_same, Finset.sum_congr rfl fun d _ => owed_rcv k d c,
    Finset.sum_ite_eq' Finset.univ (peer (back k) c) fun _ => N, if_pos (Finset.mem_univ _)]

omit [FloatOps F] in
theorem credits (c : Dev nD) :
    (Pipeline.launchCred O₀ c : sProp 𝕄) ⊢ iprop(cred (tallyAt (barCell c) () 3) ∗ cred (tallyAt (rcvCell 0 c) () N) ∗ cred (tallyAt (rcvCell 1 c) () N)
      ∗ cred (tallyAt (rcvCell 2 c) () N)) := by
  unfold Pipeline.launchCred
  rw [← launch_bar, ← launch_rcv, ← launch_rcv, ← launch_rcv]
  refine (bigSep_subset (t := {SemLoc.reg barS, .dma (rcvS 0), .dma (rcvS 1), .dma (rcvS 2)}) (Finset.subset_univ _)).trans ?_
  rw [bigSep_eq_bigSepL_of_eq [SemLoc.reg barS, .dma (rcvS 0), .dma (rcvS 1), .dma (rcvS 2)] (by decide) (by decide)]
  exact BI.Entails.refl _

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (credits (F := F) c) $$ Hcr
  imodintro
  unfold start G'
  isplitl
  · isplitl [HG]; · iexact HG
    isplitl [Hc]; · iexact Hc
    iexact Hlev
  · iempintro

theorem phi_first (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi_last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁
  rw [← sems_all]
  iintro ⟨Hg, Hb, Ho⟩
  isplitl [Hb]; · iexact Hb
  isplitl [Ho]; · iexact Ho
  iexists (gathered m ρ c); iexact Hg

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- Every window's array holds what the pipeline's data says it holds at the end. -/
def Ends : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- On all 32 devices, for any float values, from any memory and zero counters, every fair execution ends; the arrays are
    then as the data says and every counter is zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_sems (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array is what it was. -/
theorem arr_in (c : Dev nD) : (dats m ρ 0 c).arrAt (0 : Fin 2) cfg0.N = m ((c : Thread nD τ).loc main_arg0) :=
  (dats (F := F) m ρ 0 c).arrAt_in (0 : Fin 2) rfl _

theorem base_in : (fun a => (win0_0.index (0 : Fin 1)) a * main_arg0.ty.shape.size a) = fun _ => 0 :=
  funext fun a => by fin_cases a <;> decide
theorem base_out : (fun a => (win0_1.index (0 : Fin 1)) a * main_v1.ty.shape.size a) = fun _ => 0 :=
  funext fun a => by fin_cases a <;> decide

/-- A device's block is its argument's array. -/
theorem blk_eq (c : Dev nD) : blk m ρ c = m ((c : Thread nD τ).loc main_arg0) :=
  Memref.read_access_unit_zero (Elt F) main_arg0 base_in (fun a => by fin_cases a <;> decide) (m ((c : Thread nD τ).loc main_arg0))

/-- The result's array is what the body computed. -/
theorem arr_out (c : Dev nD) : (dats m ρ 0 c).arrAt (1 : Fin 2) cfg0.N = result m ρ c := by
  have h : (win0_1.blk (0 : Fin 1)).view.read (Elt F) ((dats m ρ 0 c).arrAt (1 : Fin 2) cfg0.N) = result m ρ c := by
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  exact (Memref.read_access_unit_zero (Elt F) main_v1 base_out (fun a => by fin_cases a <;> decide) _).symm.trans h

end Cert.TopEight

end
-- ==== Proof.TopMath.lean ====
/-
  The greatest values of a set, without repetition, in order: `nth S 0` is the greatest value of `S`, `nth S 1` the
  greatest value below it, and so on, `⊥` once there is none. Facts about them: repeated removal of the maximum
  finds them (`sup_cut`, `cut_succ`); the first eight of a union are the first eight of the first eights of its parts
  (`nth_parts`); and a descending arrangement gives them as long as it strictly descends (`nth_of_sorted`). Replacing
  the repetitions in a descending list by `⊥` changes none of them (`nth_firsts`).
-/
module

public import Mathlib.Data.EReal.Basic
public import Mathlib.Order.ConditionallyCompleteLattice.Finset

@[expose] public section

noncomputable section

namespace Cert.TopEight

/-- The `k`-th greatest value of `S`, equal values counted once, `⊥` where there are not so many. -/
def nth (S : Set EReal) : ℕ → EReal
  | 0 => sSup S
  | k + 1 => sSup {v | v ∈ S ∧ v < nth S k}

theorem nth_succ_le (S : Set EReal) (k : ℕ) : nth S (k + 1) ≤ nth S k :=
  sSup_le fun _ hv => hv.2.le

/-- More values, greater ones. -/
theorem nth_mono {S T : Set EReal} (h : ∀ v ∈ S, v ∈ T ∨ v = ⊥) : ∀ k, nth S k ≤ nth T k
  | 0 => sSup_le fun v hv => (h v hv).elim (fun hT => le_sSup hT) (fun e => e ▸ bot_le)
  | k + 1 => sSup_le fun v hv => (h v hv.1).elim
      (fun hT => le_sSup ⟨hT, hv.2.trans_le (nth_mono h k)⟩) (fun e => e ▸ bot_le)

/-- A finite set's supremum is one of its members, or `⊥`. -/
theorem sup_mem {S : Set EReal} (hS : S.Finite) : sSup S ∈ S ∨ sSup S = ⊥ := by
  rcases S.eq_empty_or_nonempty with rfl | hne
  · exact Or.inr sSup_empty
  · exact Or.inl (hne.csSup_mem hS)

/-- So is each of its greatest values, and it is below the one before. -/
theorem nth_mem {S : Set EReal} (hS : S.Finite) : ∀ k, nth S k ∈ S ∨ nth S k = ⊥
  | 0 => sup_mem hS
  | k + 1 => (sup_mem (hS.subset fun _ hv => hv.1 : ({v | v ∈ S ∧ v < nth S k} : Set EReal).Finite)).imp_left And.left

theorem nth_succ_lt {S : Set EReal} (hS : S.Finite) (k : ℕ) : nth S (k + 1) < nth S k ∨ nth S (k + 1) = ⊥ :=
  (sup_mem (hS.subset fun _ hv => hv.1 : ({v | v ∈ S ∧ v < nth S k} : Set EReal).Finite)).imp_left And.right

/-- A member no less than the `k`-th greatest value is one of the first. -/
theorem eq_nth_of_le {S : Set EReal} {v : EReal} (hv : v ∈ S) : ∀ k, nth S k ≤ v → ∃ j ≤ k, v = nth S j
  | 0, h => ⟨0, le_rfl, le_antisymm (le_sSup hv) h⟩
  | k + 1, h => by
    rcases lt_or_ge v (nth S k) with hlt | hge
    · exact ⟨k + 1, le_rfl, le_antisymm (le_sSup ⟨hv, hlt⟩) h⟩
    · obtain ⟨j, hj, e⟩ := eq_nth_of_le hv k hge
      exact ⟨j, hj.trans (Nat.le_succ k), e⟩

/-! ## Repeated removal of the maximum -/

/-- The family `f` after `k` removals: what is not below the last maximum is `⊥`. -/
def cut {ι : Type} (f : ι → EReal) : ℕ → ι → EReal
  | 0 => f
  | k + 1 => fun i => if f i < nth (Set.range f) k then f i else ⊥

/-- The maximum after `k` removals is the `k`-th greatest value … -/
theorem sup_cut {ι : Type} (f : ι → EReal) : ∀ k, ⨆ i, cut f k i = nth (Set.range f) k
  | 0 => rfl
  | k + 1 => by
    refine le_antisymm (iSup_le fun i => ?_) (sSup_le ?_)
    · show (if f i < nth (Set.range f) k then f i else ⊥) ≤ _
      split
      · exact le_sSup ⟨⟨i, rfl⟩, by assumption⟩
      · exact bot_le
    · rintro v ⟨⟨i, rfl⟩, hlt⟩
      refine le_trans (le_of_eq ?_) (le_iSup (cut f (k + 1)) i)
      exact (if_pos hlt).symm

/-- … and removing it is the next removal. -/
theorem cut_succ {ι : Type} (f : ι → EReal) (k : ℕ) (i : ι) :
    (if cut f k i = nth (Set.range f) k then ⊥ else cut f k i) = cut f (k + 1) i := by
  have hle : cut f k i ≤ nth (Set.range f) k := sup_cut f k ▸ le_iSup (cut f k) i
  match k, hle with
  | 0, hle =>
    show (if f i = _ then ⊥ else f i) = if f i < _ then f i else ⊥
    by_cases e : f i = nth (Set.range f) 0
    · rw [if_pos e, if_neg (by rw [e]; exact lt_irrefl _)]
    · rw [if_neg e, if_pos (show f i < _ from lt_of_le_of_ne hle e)]
  | k + 1, hle =>
    have hc : cut f (k + 1) i = if f i < nth (Set.range f) k then f i else ⊥ := rfl
    show _ = if f i < nth (Set.range f) (k + 1) then f i else ⊥
    by_cases h : f i < nth (Set.range f) k
    · rw [hc, if_pos h] at hle ⊢
      by_cases e : f i = nth (Set.range f) (k + 1)
      · rw [if_pos e, if_neg (by rw [e]; exact lt_irrefl _)]
      · rw [if_neg e, if_pos (lt_of_le_of_ne hle e)]
    · have h' : ¬f i < nth (Set.range f) (k + 1) := fun h' => h (h'.trans_le (nth_succ_le _ k))
      rw [hc, if_neg h, if_neg h', ite_self]

/-! ## The parts of a union -/

/-- The first `n` greatest values of a finite union are those of its parts' first `n`. -/
theorem nth_parts {ι : Type} {n : ℕ} (S : Set EReal) (hS : S.Finite) (P : ι → Set EReal) (hP : ∀ z, P z ⊆ S)
    (hcov : ∀ v ∈ S, ∃ z, v ∈ P z) :
    ∀ k < n, nth {v | ∃ z, ∃ j < n, v = nth (P z) j} k = nth S k := by
  have hup : ∀ k, nth {v | ∃ z, ∃ j < n, v = nth (P z) j} k ≤ nth S k := nth_mono fun v ⟨z, j, _, e⟩ =>
    (nth_mem (hS.subset (hP z)) j).imp (fun h => e ▸ hP z h) (fun h => e.trans h)
  have hin : ∀ k < n, nth S k ∈ S → nth S k ∈ {v | ∃ z, ∃ j < n, v = nth (P z) j} := fun k hk hm => by
    obtain ⟨z, hz⟩ := hcov _ hm
    obtain ⟨j, hj, e⟩ := eq_nth_of_le hz k (nth_mono (fun v hv => Or.inl (hP z hv)) k)
    exact ⟨z, j, hj.trans_lt hk, e⟩
  intro k
  induction k with
  | zero =>
    intro hk
    refine le_antisymm (hup 0) ?_
    rcases nth_mem hS 0 with h | h
    · exact le_sSup (hin 0 hk h)
    · exact h ▸ bot_le
  | succ k ih =>
    intro hk
    refine le_antisymm (hup _) ?_
    rcases nth_mem hS (k + 1) with h | h
    · rcases nth_succ_lt hS k with hlt | h'
      · exact le_sSup ⟨hin _ hk h, (ih (Nat.lt_of_succ_lt hk)).symm ▸ hlt⟩
      · exact h' ▸ bot_le
    · exact h ▸ bot_le

/-! ## A descending arrangement -/

/-- As long as a descending arrangement of the values strictly descends, or has reached the least value, it gives the
    greatest values. -/
theorem nth_of_sorted {n : ℕ} (S : Set EReal) (s : Fin n → EReal) (hs : Antitone s) (hr : Set.range s = S) :
    ∀ (k : ℕ) (hk : k < n), (∀ (j : ℕ) (hj : j < k), s ⟨j + 1, by omega⟩ < s ⟨j, by omega⟩ ∨ s ⟨j + 1, by omega⟩ = ⊥) →
      nth S k = s ⟨k, hk⟩
  | 0, hk, _ => by
    subst hr
    exact le_antisymm (sSup_le fun v ⟨p, e⟩ => e ▸ hs (Fin.mk_le_of_le_val (Nat.zero_le _))) (le_sSup ⟨_, rfl⟩)
  | k + 1, hk, h => by
    have ih := nth_of_sorted S s hs hr k (by omega) fun j hj => h j (by omega)
    subst hr
    show sSup {v | v ∈ Set.range s ∧ v < nth (Set.range s) k} = _
    rw [ih]
    refine le_antisymm (sSup_le ?_) ((h k (by omega)).elim (fun hlt => le_sSup ⟨⟨_, rfl⟩, hlt⟩) (fun e => e ▸ bot_le))
    rintro v ⟨⟨p, rfl⟩, hlt⟩
    refine hs (Fin.mk_le_of_le_val ?_)
    by_contra hc
    exact absurd (hs (show p ≤ ⟨k, by omega⟩ from by show p.val ≤ k; omega)) (not_le.mpr hlt)

/-! ## Equal values counted once -/

/-- A descending list with every repetition of a value replaced by the least one. -/
def firsts {n : ℕ} (s : Fin (n + 1) → EReal) : Fin (n + 1) → EReal :=
  Fin.cases (s 0) fun p => if s p.succ < s p.castSucc then s p.succ else ⊥

theorem firsts_succ {n : ℕ} (s : Fin (n + 1) → EReal) (p : Fin n) :
    firsts s p.succ = if s p.succ < s p.castSucc then s p.succ else ⊥ := rfl

/-- Its values are the list's or the least one … -/
theorem firsts_eq {n : ℕ} (s : Fin (n + 1) → EReal) (i : Fin (n + 1)) : firsts s i = s i ∨ firsts s i = ⊥ := by
  refine Fin.cases (Or.inl rfl) (fun p => ?_) i
  rw [firsts_succ]
  split
  · exact Or.inl rfl
  · exact Or.inr rfl

/-- … every value of the list is left once … -/
theorem firsts_cover {n : ℕ} (s : Fin (n + 1) → EReal) (hs : Antitone s) (i : Fin (n + 1)) : s i ∈ Set.range (firsts s) := by
  induction i using Fin.induction with
  | zero => exact ⟨0, rfl⟩
  | succ p ih =>
    rcases (hs p.castSucc_lt_succ.le).lt_or_eq with hlt | e
    · exact ⟨p.succ, (firsts_succ s p).trans (if_pos hlt)⟩
    · exact e ▸ ih

/-- … and only the least one is left at two places. -/
theorem firsts_once {n : ℕ} (s : Fin (n + 1) → EReal) (hs : Antitone s) {i j : Fin (n + 1)} (hij : i < j)
    (e : firsts s i = firsts s j) : firsts s j = ⊥ := by
  obtain ⟨p, rfl⟩ := Fin.exists_succ_eq.mpr (Fin.ne_zero_of_lt hij)
  rw [firsts_succ] at e ⊢
  by_cases h : s p.succ < s p.castSucc
  · rw [if_pos h] at e ⊢
    rcases firsts_eq s i with hi | hi
    · exact absurd (h.trans_le (hs (Fin.le_castSucc_iff.mpr hij))) (by rw [← hi, e]; exact lt_irrefl _)
    · exact e.symm.trans hi
  · exact if_neg h

/-- The least value more or less in a set changes none of its greatest values. -/
theorem nth_congr {S T : Set EReal} (h : ∀ v ∈ S, v ∈ T ∨ v = ⊥) (h' : ∀ v ∈ T, v ∈ S ∨ v = ⊥) (k : ℕ) : nth S k = nth T k :=
  le_antisymm (nth_mono h k) (nth_mono h' k)

/-- So the list without repetitions has the same greatest values. -/
theorem nth_firsts {n : ℕ} (s : Fin (n + 1) → EReal) (hs : Antitone s) (k : ℕ) :
    nth (Set.range (firsts s)) k = nth (Set.range s) k :=
  nth_congr (S := Set.range (firsts s)) (T := Set.range s)
    (by rintro _ ⟨i, rfl⟩; exact (firsts_eq s i).imp_left fun h => ⟨i, h.symm⟩)
    (by rintro _ ⟨i, rfl⟩; exact Or.inl (firsts_cover s hs i)) k

end Cert.TopEight

end
-- ==== Proof.KernelValue.lean ====
/-
# The kernel's value

A device takes the maximum of each row of its block eight times, each time replacing what equals it by the least
value, and then does the same with the four pages of the table it has gathered. Over the extended reals the first gives
the eight greatest values of the block's row (`pick_apply`), the second the eight greatest of the four pages
(`merge_apply`), and together they give the eight greatest of the row over the group's four blocks (`result_apply`).
-/
module

public import proofs.«01_k».proof.Proof.Protocol
public import proofs.«01_k».proof.Proof.TopMath
public import Idealize.ShloMosaic.Lib.Pointwise
public import Idealize.ShloMosaic.PureOps.Ideal.Laws

@[expose] public section

noncomputable section

namespace Cert.TopEight

open Cert.KernelIdeal Cert.KernelIdeal.Gen
open Idealize.ShloMosaic

/-- The pattern that stands for the least value. -/
theorem low_eq : Ideal.ofBits .bf16 0xFF80#16 = (⊥ : EReal) := by simp [Ideal.ofBits, Ideal.ieee]

/-- A maximum of finitely many values as their supremum. -/
theorem fold_max_bot {ι : Type} [Fintype ι] (f : ι → EReal) : Finset.univ.fold max ⊥ f = ⨆ i, f i := by
  rw [← Finset.sup_univ_eq_iSup]; rfl

/-! ## A block's rounds -/

/-- A row's maximum, as a column. -/
def rowMax (x : FVec Ideal S256x1024 .bf16) : FVec Ideal S256x1 .bf16 :=
  shapeCast S256x1 (multiReduction .maximumf [1] S256 x 0xFF80#16 reduces_S256x1024_S256 (.inr rfl) rfl) shapeCasts_S256_S256x1

/-- The block with what equals its row's maximum replaced by the least value. -/
def rowTrim (x : FVec Ideal S256x1024 .bf16) : FVec Ideal S256x1024 .bf16 :=
  select (cmpf .oeq x (broadcastTo S256x1024 (rowMax x) broadcasts_S256x1_S256x1024))
    (broadcast S256x1024 (Scalar.ofBits .bf16 0xFF80#16)) x

/-- A row's maximum at an index … -/
theorem rowMax_apply (x : FVec Ideal S256x1024 .bf16) (r : Fin 256) (u : Fin 1) :
    rowMax x (ix2 r u) = ⨆ i : Fin 1024, x (ix2 r i) := by
  pointwise [rowMax]
  rw [low_eq, fold_max_bot]

/-- … and the block with it replaced. -/
theorem rowTrim_apply (x : FVec Ideal S256x1024 .bf16) (r : Fin 256) (i : Fin 1024) :
    rowTrim x (ix2 r i) = if x (ix2 r i) = rowMax x (ix2 r 0) then ⊥ else x (ix2 r i) := by
  pointwise [rowTrim]
  rw [low_eq]

/-- After `k` rounds a row of the block is `cut` `k` times … -/
theorem rowTrim_iter (x : FVec Ideal S256x1024 .bf16) (r : Fin 256) : ∀ (k : ℕ) (i : Fin 1024),
    rowTrim^[k] x (ix2 r i) = cut (fun i : Fin 1024 => x (ix2 r i)) k i
  | 0, _ => rfl
  | k + 1, i => by
    rw [Function.iterate_succ_apply', rowTrim_apply, rowMax_apply]
    simp only [rowTrim_iter x r k]
    rw [sup_cut, cut_succ]

/-- … and its maximum is the row's next greatest value. -/
theorem rowMax_iter (x : FVec Ideal S256x1024 .bf16) (r : Fin 256) (u : Fin 1) (k : ℕ) :
    rowMax (rowTrim^[k] x) (ix2 r u) = nth (Set.range fun i : Fin 1024 => x (ix2 r i)) k := by
  rw [rowMax_apply]
  simp only [rowTrim_iter x r k]
  exact sup_cut _ k

/-- Eight columns side by side. -/
def columns {F : FTy → Type} {φ : FTy} (f : ℕ → FVec F S256x1 φ) : FVec F S256x8 φ :=
  concatenate S256x8 1 [⟨S256x1, f 0⟩, ⟨S256x1, f 1⟩, ⟨S256x1, f 2⟩, ⟨S256x1, f 3⟩, ⟨S256x1, f 4⟩, ⟨S256x1, f 5⟩, ⟨S256x1, f 6⟩, ⟨S256x1, f 7⟩]
    concatenates_S256x1_S256x1_S256x1_S256x1_S256x1_S256x1_S256x1_S256x1_S256x8_d1

/-- The `k`-th of the columns. -/
theorem columns_apply {F : FTy → Type} {φ : FTy} (f : ℕ → FVec F S256x1 φ) (r : Fin 256) (k : Fin 8) :
    columns f (ix2 r k) = f k (ix2 r 0) := by
  fin_cases k <;> pointwise [columns]
  all_goals rfl

/-- Eight rounds on a block, each named. -/
theorem pay5_eq (x y : FVec Ideal S256x1024 .bf16) (hy : rowTrim x = y) (y2 y3 y4 y5 y6 y7 : FVec Ideal S256x1024 .bf16)
    (h2 : rowTrim y = y2) (h3 : rowTrim y2 = y3) (h4 : rowTrim y3 = y4) (h5 : rowTrim y4 = y5) (h6 : rowTrim y5 = y6)
    (h7 : rowTrim y6 = y7) :
    k0_pay5 x (rowMax x) (cmpf .oeq x (broadcastTo S256x1024 (rowMax x) broadcasts_S256x1_S256x1024))
      (Scalar.ofBits .bf16 0xFF80#16)
    = shapeCast S1x256x8 (concatenate S256x8 1 [⟨S256x1, rowMax x⟩, ⟨S256x1, rowMax y⟩, ⟨S256x1, rowMax y2⟩, ⟨S256x1, rowMax y3⟩,
      ⟨S256x1, rowMax y4⟩, ⟨S256x1, rowMax y5⟩, ⟨S256x1, rowMax y6⟩, ⟨S256x1, rowMax y7⟩]
      concatenates_S256x1_S256x1_S256x1_S256x1_S256x1_S256x1_S256x1_S256x1_S256x8_d1) shapeCasts_S256x8_S1x256x8 := by
  subst h7 h6 h5 h4 h3 h2 hy
  rfl

/-- The page a block gives, as eight iterates. -/
theorem pick_eq (x : FVec Ideal S256x1024 .bf16) :
    pick (F := Ideal) x = shapeCast S1x256x8 (columns fun k => rowMax (rowTrim^[k] x)) shapeCasts_S256x8_S1x256x8 := by
  have iter : ∀ k, rowTrim (rowTrim^[k] x) = rowTrim^[k + 1] x := fun k => (Function.iterate_succ_apply' rowTrim k x).symm
  unfold pick k0_pay6 k0_pay3 k0_pay4 k0_pay3 k0_pay2
  simp only [shapeCast_id]
  exact pay5_eq x (rowTrim^[1] x) rfl (rowTrim^[2] x) (rowTrim^[3] x) (rowTrim^[4] x) (rowTrim^[5] x) (rowTrim^[6] x)
    (rowTrim^[7] x) (iter 1) (iter 2) (iter 3) (iter 4) (iter 5) (iter 6)

/-- The page holds the greatest values of each row of the block. -/
theorem pick_apply (x : FVec Ideal S256x1024 .bf16) (r : Fin 256) (k : Fin 8) :
    pick (F := Ideal) x (ix3 0 r k) = nth (Set.range fun i : Fin 1024 => x (ix2 r i)) k := by
  rw [pick_eq]
  pointwise
  rw [columns_apply, rowMax_iter]

/-! ## The table's rounds -/

/-- The maximum of each row over the four pages of the table. -/
def tableMax (g : FVec Ideal S4x256x8 .bf16) : FVec Ideal S256 .bf16 :=
  multiReduction .maximumf [0] S256 (multiReduction .maximumf [2] S4x256 g 0xFF80#16 reduces_S4x256x8_S4x256 (.inr rfl) rfl)
    0xFF80#16 reduces_S4x256_S256 (.inr rfl) rfl

/-- The table with what equals its row's maximum replaced by the least value. -/
def tableTrim (g : FVec Ideal S4x256x8 .bf16) : FVec Ideal S4x256x8 .bf16 :=
  select (cmpf .oeq g (broadcastTo S4x256x8 (shapeCast S1x256x1 (tableMax g) shapeCasts_S256_S1x256x1) broadcasts_S1x256x1_S4x256x8))
    (broadcast S4x256x8 (Scalar.ofBits .bf16 0xFF80#16)) g

/-- The table's maximum in a row … -/
theorem tableMax_apply (g : FVec Ideal S4x256x8 .bf16) (r : Fin 256) :
    tableMax g (ix1 r) = ⨆ p : Fin 4 × Fin 8, g (ix3 p.1 r p.2) := by
  pointwise [tableMax]
  simp only [low_eq, fold_max_bot, iSup_prod]

/-- … and the table with it replaced. -/
theorem tableTrim_apply (g : FVec Ideal S4x256x8 .bf16) (z : Fin 4) (r : Fin 256) (j : Fin 8) :
    tableTrim g (ix3 z r j) = if g (ix3 z r j) = tableMax g (ix1 r) then ⊥ else g (ix3 z r j) := by
  pointwise [tableTrim]
  rw [low_eq]

/-- After `k` rounds a row of the table is `cut` `k` times … -/
theorem tableTrim_iter (g : FVec Ideal S4x256x8 .bf16) (r : Fin 256) : ∀ (k : ℕ) (p : Fin 4 × Fin 8),
    tableTrim^[k] g (ix3 p.1 r p.2) = cut (fun p : Fin 4 × Fin 8 => g (ix3 p.1 r p.2)) k p
  | 0, _ => rfl
  | k + 1, p => by
    rw [Function.iterate_succ_apply', tableTrim_apply, tableMax_apply]
    simp only [tableTrim_iter g r k]
    rw [sup_cut, cut_succ]

/-- … and its maximum is the row's next greatest value. -/
theorem tableMax_iter (g : FVec Ideal S4x256x8 .bf16) (r : Fin 256) (k : ℕ) :
    tableMax (tableTrim^[k] g) (ix1 r) = nth (Set.range fun p : Fin 4 × Fin 8 => g (ix3 p.1 r p.2)) k := by
  rw [tableMax_apply]
  simp only [tableTrim_iter g r k]
  exact sup_cut _ k

/-- A row's maximum as a column. -/
def tableCol (g : FVec Ideal S4x256x8 .bf16) : FVec Ideal S256x1 .bf16 := shapeCast S256x1 (tableMax g) shapeCasts_S256_S256x1

/-- Eight rounds on the table, each named. -/
theorem merge_eq_steps (g g1 g2 g3 g4 g5 g6 g7 : FVec Ideal S4x256x8 .bf16) (h1 : tableTrim g = g1) (h2 : tableTrim g1 = g2)
    (h3 : tableTrim g2 = g3) (h4 : tableTrim g3 = g4) (h5 : tableTrim g4 = g5) (h6 : tableTrim g5 = g6) (h7 : tableTrim g6 = g7) :
    merge (F := Ideal) g = extf .f32 (concatenate S256x8 1 [⟨S256x1, tableCol g⟩, ⟨S256x1, tableCol g1⟩, ⟨S256x1, tableCol g2⟩,
      ⟨S256x1, tableCol g3⟩, ⟨S256x1, tableCol g4⟩, ⟨S256x1, tableCol g5⟩, ⟨S256x1, tableCol g6⟩, ⟨S256x1, tableCol g7⟩]
      concatenates_S256x1_S256x1_S256x1_S256x1_S256x1_S256x1_S256x1_S256x1_S256x8_d1) bitsLt_bf16_f32 := by
  have e9 : ∀ g, k0_pay9 g = tableTrim g := fun _ => rfl
  have e12 : ∀ g, k0_pay12 g = tableTrim (k0_pay9 g) := fun _ => rfl
  have e15 : ∀ g, k0_pay15 g = tableTrim (k0_pay12 g) := fun _ => rfl
  have e18 : ∀ g, k0_pay18 g = tableTrim (k0_pay15 g) := fun _ => rfl
  have e21 : ∀ g, k0_pay21 g = tableTrim (k0_pay18 g) := fun _ => rfl
  have c1 : k0_pay11 g = tableCol (k0_pay9 g) := rfl
  have c2 : k0_pay14 g = tableCol (k0_pay12 g) := rfl
  have c3 : k0_pay17 g = tableCol (k0_pay15 g) := rfl
  have c4 : k0_pay20 g = tableCol (k0_pay18 g) := rfl
  have c5 : k0_pay23 g = tableCol (k0_pay21 g) := rfl
  have m5 : k0_pay22 g = tableMax (k0_pay21 g) := rfl
  unfold merge
  rw [c1, c2, c3, c4, c5, m5, e21, e18, e15, e12, e9, h1, h2, h3, h4, h5]
  subst h7 h6
  rfl

/-- The eight rounds find the greatest values of each row of the table. -/
theorem merge_apply (g : FVec Ideal S4x256x8 .bf16) (r : Fin 256) (k : Fin 8) :
    merge (F := Ideal) g (ix2 r k) = nth (Set.range fun p : Fin 4 × Fin 8 => g (ix3 p.1 r p.2)) k := by
  have iter : ∀ k, tableTrim (tableTrim^[k] g) = tableTrim^[k + 1] g := fun k => (Function.iterate_succ_apply' tableTrim k g).symm
  have e : merge (F := Ideal) g = extf .f32 (columns fun k => tableCol (tableTrim^[k] g)) bitsLt_bf16_f32 :=
    merge_eq_steps g (tableTrim^[1] g) (tableTrim^[2] g) (tableTrim^[3] g) (tableTrim^[4] g) (tableTrim^[5] g) (tableTrim^[6] g)
      (tableTrim^[7] g) rfl (iter 1) (iter 2) (iter 3) (iter 4) (iter 5) (iter 6)
  rw [e]
  show columns (fun k => tableCol (tableTrim^[k] g)) (ix2 r k) = _
  rw [columns_apply]
  pointwise [tableCol]
  exact tableMax_iter g r k

/-! ## The result -/

/-- What a device ends with in row `r`, place `k`: the `k`-th greatest of the row over its four companions' blocks. -/
theorem result_apply (m : (ℓ : Loc nD τ sig) → Buf (Elt Ideal) ℓ) (ρ : Dev nD → PrngReg) (c : Dev nD) (r : Fin 256) (k : Fin 8) :
    result (F := Ideal) m ρ c (ix2 r k)
      = nth (Set.range fun p : Fin 4 × Fin 1024 => blk (F := Ideal) m ρ (mate c p.1) (ix2 r p.2)) k := by
  have hg : ∀ p : Fin 4 × Fin 8, gathered (F := Ideal) m ρ c (ix3 p.1 r p.2)
      = nth (Set.range fun i : Fin 1024 => blk (F := Ideal) m ρ (mate c p.1) (ix2 r i)) p.2 := fun p => pick_apply _ r p.2
  have hu : (Set.range fun p : Fin 4 × Fin 8 => gathered (F := Ideal) m ρ c (ix3 p.1 r p.2))
      = {v | ∃ z : Fin 4, ∃ j < 8, v = nth (Set.range fun i : Fin 1024 => blk (F := Ideal) m ρ (mate c z) (ix2 r i)) j} := by
    ext v
    constructor
    · rintro ⟨p, rfl⟩
      exact ⟨p.1, p.2.val, p.2.isLt, hg p⟩
    · rintro ⟨z, j, hj, rfl⟩
      exact ⟨(z, ⟨j, hj⟩), hg (z, ⟨j, hj⟩)⟩
  unfold result
  refine (merge_apply _ r k).trans ?_
  rw [hu]
  refine nth_parts _ (Set.finite_range _) _ (fun z => ?_) ?_ k k.isLt
  · rintro _ ⟨i, rfl⟩; exact ⟨(z, i), rfl⟩
  · rintro _ ⟨p, rfl⟩; exact ⟨p.1, p.2, rfl⟩

end Cert.TopEight

end
-- ==== Proof.RefValue.lean ====
/-
# The reference's value and the mask

The reference sorts each row and reads the values at the first eight places of the sorting permutation (`order`,
`chosen_apply`). The mask sorts the row too, marks each of the first eight values that is below the one before, and
takes the running minimum of the marks, so it selects a place only where the list strictly descends that far
(`descends_of_mask`). There the reference's value is the next greatest one of the row (`chosen_nth`).
-/
module

public import proofs.«01_k».proof.Proof.Gen.ReferenceIdeal
public import proofs.«01_k».proof.Proof.Gen.On_untied
public import proofs.«01_k».proof.Proof.TopMath
public import Idealize.ShloMosaic.Lib.Pointwise
public import Idealize.ShloMosaic.Lib.SortFacts
public import Idealize.ShloMosaic.Lib.ReduceAll
public import Idealize.ShloMosaic.Lib.ValueIdx

@[expose] public section

noncomputable section

namespace Cert.TopEight

open Cert.ReferenceIdeal Cert.ReferenceIdeal.Gen
open Idealize.ShloMosaic

/-! ## The sorting permutation of a row -/

/-- Where the `k`-th value of the row `f`, sorted downwards and ties left in place, comes from. -/
def order {n : ℕ} (f : Fin n → EReal) : Fin n → Fin n := sortedFrom fun k k' => decide (-(f k) < -(f k'))

/-- Each place of the row is the place of one of the sorted values … -/
theorem order_surjective {n : ℕ} (f : Fin n → EReal) : Function.Surjective (order f) := sortedFrom_surjective _

/-- The sorted row descends. -/
theorem order_antitone {n : ℕ} (f : Fin n → EReal) : Antitone fun k => f (order f k) := fun i j hij => by
  rcases hij.eq_or_lt with rfl | h
  · exact le_rfl
  · have := sortedFrom_noInversion (fun k k' : Fin n => decide (-(f k) < -(f k'))) (fun k k' => decide (-(f k) < -(f k')))
      (fun a b h => by simp only [decide_eq_true_eq, decide_eq_false_iff_not, not_lt] at h ⊢; exact h.le) (fun _ _ h => h)
      (fun a b c h h' => by simp only [decide_eq_false_iff_not, not_lt] at h h' ⊢; exact h'.trans h) i j h
    simp only [decide_eq_false_iff_not, not_lt] at this
    exact EReal.neg_le_neg_iff.mp this

/-- … so the sorted row has the same values. -/
theorem order_range {n : ℕ} (f : Fin n → EReal) : (Set.range fun k => f (order f k)) = Set.range f :=
  (order_surjective f).range_comp f

/-! ## The two comparators are the order of the values -/

/-- The pattern of zero. -/
theorem zero_eq : Ideal.ofBits .f32 0x00000000#32 = (0 : EReal) := by simp [Ideal.ofBits, Ideal.ieee]

/-- Making zeros and indeterminate values uniform changes nothing on the extended reals. -/
theorem uniform_eq (v c : EReal) : Scalar.select (Ideal.cmp .une v v) c
    (Scalar.select (Ideal.cmp .oeq v (Ideal.ofBits .f32 0x00000000#32)) (Ideal.ofBits .f32 0x00000000#32) v) = v := by
  have h : Ideal.cmp .une v v = 0#1 := by simp [Ideal.cmp]
  rw [h, ValueIdx.select_zero, zero_eq]
  by_cases e : v = 0
  · subst e; simp [Scalar.select]
  · have h' : Ideal.cmp .oeq v 0 = 0#1 := by simp [Ideal.cmp, e]
    rw [h', ValueIdx.select_zero]

/-- The comparison the sorts use is the order of the values. -/
theorem before_eq (l r : EReal × BitVec 32) :
    (comparator_f32_i32_d1 (F := Ideal) l r == 1#1) = decide (l.1 < r.1) := by
  have e : comparator_f32_i32_d1 (F := Ideal) l r = Ideal.cmp .olt l.1 r.1 :=
    congrArg₂ (Ideal.cmp .olt) (uniform_eq l.1 _) (uniform_eq r.1 _)
  rw [e]
  by_cases h : l.1 < r.1 <;> simp [Ideal.cmp, h]

/-! ## The sorts at an index -/

/-- The index at `k` along the row of another index. -/
theorem along_eq (r : Fin 256) (p k : Fin 4096) : Shape.Idx.along (s := S256x4096) (ix2 r p) 1 k = ix2 r k := by
  funext a; match a with | ⟨0, _⟩ => rfl | ⟨1, _⟩ => rfl

/-- The permutation that sorts a row is `order`, whatever is carried along. -/
theorem order_row (X : FVec Ideal S256x4096 .f32) (r : Fin 256) (p : Fin 4096) (y : S256x4096.Idx → BitVec 32) :
    sortedFrom (fun k k' : Fin 4096 => comparator_f32_i32_d1 (F := Ideal)
        (Host.negf X (Shape.Idx.along (s := S256x4096) (ix2 r p) 1 k), y (Shape.Idx.along (s := S256x4096) (ix2 r p) 1 k))
        (Host.negf X (Shape.Idx.along (s := S256x4096) (ix2 r p) 1 k'), y (Shape.Idx.along (s := S256x4096) (ix2 r p) 1 k')) == 1#1)
      = order fun i => X (ix2 r i) := by
  refine congrArg sortedFrom (funext fun k => funext fun k' => ?_)
  refine (before_eq _ _).trans ?_
  simp only [along_eq]
  rfl

/-- The row sorted by itself, at an index … -/
theorem sort_apply (X : FVec Ideal S256x4096 .f32) (r : Fin 256) (p : Fin 4096) :
    Host.sort S256x4096 1 (Cert.On_untied.comparator_f32_d1 (F := Ideal)) (Host.negf X) (ix2 r p)
      = -(X (ix2 r (order (fun i => X (ix2 r i)) p))) := by
  rw [Host.sort, dif_pos (by decide)]
  refine (congrArg (fun σ : Fin 4096 → Fin 4096 => Host.negf X (Shape.Idx.along (s := S256x4096) (ix2 r p) 1 (σ p)))
    (order_row X r p fun _ => 0#32)).trans ?_
  rw [along_eq]
  rfl

/-- … and the places sorted by the row. -/
theorem chosenAt_apply (X : FVec Ideal S256x4096 .f32) (r : Fin 256) (p : Fin 4096) :
    (Host.sort2 S256x4096 1 (comparator_f32_i32_d1 (F := Ideal)) (Host.negf X) (iotaInDim S256x4096 32 1)).2 (ix2 r p)
      = BitVec.ofNat 32 (order (fun i => X (ix2 r i)) p).val := by
  rw [Host.sort2, dif_pos (by decide)]
  refine (congrArg (fun σ : Fin 4096 → Fin 4096 => iotaInDim S256x4096 32 1 (Shape.Idx.along (s := S256x4096) (ix2 r p) 1 (σ p)))
    (order_row X r p (iotaInDim S256x4096 32 1))).trans ?_
  rw [along_eq]
  rfl

/-! ## The reference's result -/

/-- The places of a row's first eight values, as the reference computes them. -/
def chosenAt (X : FVec Ideal S256x4096 .f32) : IVec S256x8 32 :=
  extractStridedSlice S256x8 ![0, 0] ((Host.sort2 S256x4096 1 (comparator_f32_i32_d1 (F := Ideal)) (Host.negf X) (iotaInDim S256x4096 32 1)).2)
    slices_S256x4096_S256x8_0_0

/-- The same with negative ones counted from the end, as the list of indices to read. -/
def starts (X : FVec Ideal S256x4096 .f32) : IVec S256x8x1 32 :=
  shapeCast S256x8x1 (select (cmpi .slt (chosenAt X) (broadcastInDim S256x8 ![] bcast_S_S256x8 (constantI S_ 32 0#32)))
    (addi (chosenAt X) (broadcastInDim S256x8 ![] bcast_S_S256x8 (constantI S_ 32 4096#32))) (chosenAt X)) shapeCasts_S256x8_S256x8x1

/-- What the reference ends with on `X`. -/
def chosen (X : FVec Ideal S256x4096 .f32) : FVec Ideal S256x8 .f32 :=
  select (Host.reduce IntOp.andi (andi (cmpi .sge (starts X) (broadcastInDim S256x8x1 ![] bcast_S_S256x8x1 (constantI S_ 32 0#32)))
      (cmpi .sle (starts X) (broadcastInDim S256x8x1 ![0, 1, 2] bcast_S1x1x1_S256x8x1_0_1_2 (broadcastInDim S1x1x1 ![2] bcast_S1_S1x1x1_2 (constantI S1 32 4095#32)))))
      (constantI S_ 1 1#1) reducesTo_S256x8x1_S256x8_d2 h_S_)
    (Host.gather gather_S256x4096_S256x8x1_S256x8_n_1_0_0_1_2_11 X (starts X))
    (broadcastInDim S256x8 ![] bcast_S_S256x8 (constant S_ .f32 0x7FC00000#32))

/-- The place in its row of the `k`-th value of row `r`. -/
def place (X : FVec Ideal S256x4096 .f32) (r : Fin 256) (k : Fin 8) : Fin 4096 := order (fun i => X (ix2 r i)) (k.castLE (by decide))

/-- A place as a signed word is itself. -/
theorem toInt_place (n : Fin 4096) : (BitVec.ofNat 32 n.val).toInt = n.val := by
  have := n.isLt
  rw [BitVec.toInt_eq_toNat_of_lt] <;> rw [BitVec.toNat_ofNat] <;> omega

/-- The list of indices to read names the places. -/
theorem starts_apply (X : FVec Ideal S256x4096 .f32) (r : Fin 256) (k : Fin 8) (u : Fin 1) :
    starts X (ix3 r k u) = BitVec.ofNat 32 (place X r k).val := by
  have hp : chosenAt X (ix2 r k) = BitVec.ofNat 32 (place X r k).val := by
    pointwise [chosenAt]
    exact chosenAt_apply X r _
  pointwise [starts]
  have h : ¬IntOp.cmpi .slt (chosenAt X (ix2 r k)) 0#32 = 1#1 := by
    rw [IntOp.cmpi_slt, hp, toInt_place]
    exact not_lt.mpr (Int.natCast_nonneg _)
  rw [ValueIdx.eq_zero_of_ne_one h, ValueIdx.select_zero, hp]

/-- The gather at a result index: the operand's row at the place the list of indices names. -/
theorem gather_apply (X : FVec Ideal S256x4096 .f32) (ix : IVec S256x8x1 32) (r : Fin 256) (k : Fin 8) (n : Fin 4096)
    (hn : ix (ix3 r k 0) = BitVec.ofNat 32 n.val) :
    Host.gather gather_S256x4096_S256x8x1_S256x8_n_1_0_0_1_2_11 X ix (ix2 r k) = X (ix2 r n) := by
  have hlt := n.isLt
  unfold Host.gather
  refine congrArg X (funext fun a => Fin.ext ?_)
  show GatherDims.start _ _ ix a + GatherDims.batchCoord _ _ a + GatherDims.offCoord _ _ a = _
  have ha2 : a.val < 2 := a.isLt
  rcases (by omega : a.val = 0 ∨ a.val = 1) with ha | ha
  · obtain rfl : a = (0 : Fin 2) := Fin.ext ha
    rw [GatherDims.start_batching _ _ _ _ (List.mem_singleton.mpr rfl),
      GatherDims.offCoord_eq_zero _ _ _ (fun h => ((GatherDims.mem_sKept _ _).mp h).2 (List.mem_singleton.mpr rfl)),
      GatherDims.batchCoord,
      dif_pos (show (0 : Fin 2) ∈ gather_S256x4096_S256x8x1_S256x8_n_1_0_0_1_2_11.operandBatchingDims from List.mem_singleton.mpr rfl)]
    simp only [Nat.zero_add, Nat.add_zero]
    rfl
  · obtain rfl : a = (1 : Fin 2) := Fin.ext ha
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl)),
      GatherDims.start,
      dif_pos (show (1 : Fin 2) ∈ gather_S256x4096_S256x8x1_S256x8_n_1_0_0_1_2_11.startIndexMap from List.mem_singleton.mpr rfl)]
    have hs : ∀ q, GatherDims.siIdx gather_S256x4096_S256x8x1_S256x8_n_1_0_0_1_2_11 (ix2 r k) q = ix3 r k 0 := fun q => by
      have hq : q.val = 0 := Nat.lt_one_iff.mp q.isLt
      funext b
      refine Fin.ext ?_
      match b with
      | ⟨0, _⟩ => rfl
      | ⟨1, _⟩ => rfl
      | ⟨2, _⟩ => exact hq
    rw [hs, hn, toInt_place]
    show min n.val 4095 + 0 + 0 = n.val
    omega

/-- Every index to read is in the row. -/
theorem starts_range (X : FVec Ideal S256x4096 .f32) (i : S256x8x1.Idx) :
    andi (cmpi .sge (starts X) (broadcastInDim S256x8x1 ![] bcast_S_S256x8x1 (constantI S_ 32 0#32)))
      (cmpi .sle (starts X) (broadcastInDim S256x8x1 ![0, 1, 2] bcast_S1x1x1_S256x8x1_0_1_2 (broadcastInDim S1x1x1 ![2] bcast_S1_S1x1x1_2 (constantI S1 32 4095#32)))) i
      = 1#1 := by
  obtain ⟨r, k, u, rfl⟩ : ∃ (r : Fin 256) (k : Fin 8) (u : Fin 1), i = ix3 r k u := ⟨i 0, i 1, i 2, by
    funext a; match a with | ⟨0, _⟩ => rfl | ⟨1, _⟩ => rfl | ⟨2, _⟩ => rfl⟩
  have := (place X r k).isLt
  have hge : IntOp.cmpi .sge (starts X (ix3 r k u)) 0#32 = 1#1 := by
    rw [IntOp.cmpi_sge, starts_apply, toInt_place]; exact Int.natCast_nonneg _
  have hle : IntOp.cmpi .sle (starts X (ix3 r k u)) 4095#32 = 1#1 := by
    rw [IntOp.cmpi_sle, starts_apply, toInt_place]
    show _ ≤ (4095 : ℤ)
    omega
  exact IntOp.andi_eq_one.2 ⟨hge, hle⟩

/-- The reference's result in row `r` at `k`: the `k`-th value of the sorted row. -/
theorem chosen_apply (X : FVec Ideal S256x4096 .f32) (r : Fin 256) (k : Fin 8) :
    chosen X (ix2 r k) = X (ix2 r (place X r k)) := by
  unfold chosen
  rw [ValueIdx.select_apply, Host.reduce_andi_one _ _ _ _ _ rfl (starts_range X), ValueIdx.select_one]
  exact gather_apply X _ r k _ (starts_apply X r k 0)

/-! ## The mask -/

/-- The least of some words is no more than any of them. -/
theorem foldl_minsi_le {ι : Type} (g : ι → BitVec 32) : ∀ (l : List ι) (v : BitVec 32),
    (l.foldl (fun a n => IntOp.minsi a (g n)) v).toInt ≤ v.toInt ∧ ∀ n ∈ l, (l.foldl (fun a n => IntOp.minsi a (g n)) v).toInt ≤ (g n).toInt
  | [], _ => ⟨le_rfl, fun _ h => nomatch h⟩
  | b :: l, v => by
    have ih := foldl_minsi_le g l (IntOp.minsi v (g b))
    have hm : (IntOp.minsi v (g b)).toInt ≤ v.toInt ∧ (IntOp.minsi v (g b)).toInt ≤ (g b).toInt := by
      unfold IntOp.minsi
      split
      · next h => exact ⟨le_rfl, (BitVec.slt_iff_toInt_lt.mp h).le⟩
      · next h => exact ⟨not_lt.mp fun h' => h (BitVec.slt_iff_toInt_lt.mpr h'), le_rfl⟩
    refine ⟨ih.1.trans hm.1, fun n hn => ?_⟩
    rcases List.mem_cons.1 hn with rfl | hn
    · exact ih.1.trans hm.2
    · exact ih.2 n hn

/-- The running minimum along a row is no more than an earlier entry. -/
theorem cummin_le (x : IVec Cert.On_untied.S256x8 32) (r : Fin 256) (k j : Fin 8) (hj : j ≤ k) :
    (Cert.On_untied.fn_cummin (F := Ideal) x (ix2 r k)).toInt ≤ (x (ix2 r j)).toInt := by
  unfold Cert.On_untied.fn_cummin Host.reduceWindow
  dsimp only
  refine le_trans ((foldl_minsi_le _ _ _).2 (Shape.rowMajor ⟨2, ![1, 8]⟩ (ix2 0 ⟨7 - k.val + j.val, by omega⟩)) (List.mem_finRange _)) (le_of_eq ?_)
  simp only [Equiv.symm_apply_apply]
  rw [dif_pos fun a => ?_]
  · refine congrArg (fun i => (x i).toInt) (funext fun a => Fin.ext ?_)
    match a with
    | ⟨0, _⟩ => show r.val * 1 + 0 - 0 = r.val; omega
    | ⟨1, _⟩ => show k.val * 1 + (7 - k.val + j.val) - 7 = j.val; omega
  · have := r.isLt; have := k.isLt; have := j.isLt
    match a with
    | ⟨0, _⟩ => show 0 ≤ r.val * 1 + 0 ∧ r.val * 1 + 0 - 0 < 256; omega
    | ⟨1, _⟩ => show 7 ≤ k.val * 1 + (7 - k.val + j.val) ∧ k.val * 1 + (7 - k.val + j.val) - 7 < 8; omega

/-- The first eight values of the sorted row, as the mask computes them … -/
def descending (X : FVec Ideal S256x4096 .f32) : FVec Ideal S256x8 .f32 :=
  Host.negf (extractStridedSlice S256x8 ![0, 0]
    (Host.sort S256x4096 1 (Cert.On_untied.comparator_f32_d1 (F := Ideal)) (Host.negf X)) slices_S256x4096_S256x8_0_0)

/-- They are the values at the first eight places. -/
theorem descending_apply (X : FVec Ideal S256x4096 .f32) (r : Fin 256) (k : Fin 8) :
    descending X (ix2 r k) = X (ix2 r (place X r k)) := by
  have h := sort_apply X r (k.castLE (by decide))
  pointwise [descending]
  exact (congrArg Neg.neg h).trans (neg_neg _)

/-- … and the words that say where each is below the one before. -/
def marks (s : FVec Ideal S256x8 .f32) : IVec S256x8 32 :=
  extui 32 (concatenate Cert.On_untied.S256x8 1
    [⟨Cert.On_untied.S256x1, cmpf .oeq (extractStridedSlice Cert.On_untied.S256x1 ![0, 0] s Cert.On_untied.Gen.slices_S256x8_S256x1_0_0)
        (extractStridedSlice Cert.On_untied.S256x1 ![0, 0] s Cert.On_untied.Gen.slices_S256x8_S256x1_0_0)⟩,
     ⟨Cert.On_untied.S256x7, cmpf .olt (extractStridedSlice Cert.On_untied.S256x7 ![0, 1] s Cert.On_untied.Gen.slices_S256x8_S256x7_0_1)
        (extractStridedSlice Cert.On_untied.S256x7 ![0, 0] s Cert.On_untied.Gen.slices_S256x8_S256x7_0_0)⟩]
    Cert.On_untied.Gen.concatenates_S256x1_S256x7_S256x8_d1) Cert.On_untied.Gen.natLt_1_32

/-- A later mark says that its value is below the one before. -/
theorem marks_apply (s : FVec Ideal S256x8 .f32) (r : Fin 256) (j : Fin 7) :
    marks s (ix2 r j.succ) = (Ideal.cmp .olt (s (ix2 r j.succ)) (s (ix2 r j.castSucc))).setWidth 32 := by
  pointwise [marks]
  refine congrArg (BitVec.setWidth 32) ((dif_neg (show ¬ j.succ.val < 1 by simp)).trans
    (congrArg BitVec.ofBool (decide_eq_decide.mpr ?_)))
  have e : (⟨1 + (j.succ.val - 1), by simp; omega⟩ : Fin 8) = j.succ := Fin.ext (by simp; omega)
  exact iff_of_eq (congrArg₂ (· < ·) (congrArg (fun q => s (ix2 r q)) e) rfl)

/-- Where the mask selects place `k` of row `r`, the first `k + 1` values of the sorted row strictly descend. -/
theorem descends_of_mask (x : FVec Ideal S256x4096 .bf16) (r : Fin 256) (k : Fin 8)
    (h : Cert.On_untied.fn (F := Ideal) x (ix2 r k) = 1#1) (j : Fin 7) (hj : j.val < k.val) :
    x (ix2 r (place x r j.succ)) < x (ix2 r (place x r j.castSucc)) := by
  have h1 : Cert.On_untied.fn_cummin (F := Ideal) (marks (descending x)) (ix2 r k) = 1#32 := IntOp.cmpi_eq.mp h
  have h2 := cummin_le (marks (descending x)) r k j.succ (Fin.le_def.mpr hj)
  rw [h1, marks_apply, descending_apply, descending_apply] at h2
  by_contra hc
  rw [show Ideal.cmp .olt (x (ix2 r (place x r j.succ))) (x (ix2 r (place x r j.castSucc))) = 0#1 by simp [Ideal.cmp, hc]] at h2
  exact absurd h2 (by decide)

/-- Where the sorted list has strictly descended so far, or is at the least value, its value is the next greatest of the values. -/
theorem nth_order {n : ℕ} (f : Fin n → EReal) (k : ℕ) (hk : k < n)
    (h : ∀ j (hj : j < k), f (order f ⟨j + 1, by omega⟩) < f (order f ⟨j, by omega⟩) ∨ f (order f ⟨j + 1, by omega⟩) = ⊥) :
    nth (Set.range f) k = f (order f ⟨k, hk⟩) :=
  nth_of_sorted (Set.range f) (fun k => f (order f k)) (order_antitone f) (order_range f) k hk h

/-- Where the mask selects, the reference's result is the next greatest value of the row. -/
theorem chosen_nth (x : FVec Ideal S256x4096 .bf16) (r : Fin 256) (k : Fin 8)
    (h : Cert.On_untied.fn (F := Ideal) x (ix2 r k) = 1#1) :
    chosen (extf .f32 x bitsLt_bf16_f32) (ix2 r k) = nth (Set.range fun i : Fin 4096 => x (ix2 r i)) k := by
  rw [chosen_apply, nth_order (fun i : Fin 4096 => x (ix2 r i)) k.val (by omega)
    fun j hj => Or.inl (descends_of_mask x r k h ⟨j, by omega⟩ hj)]
  rfl

end Cert.TopEight

end
-- ==== Proof.DistinctValue.lean ====
/-
# The value of the second reference

It sorts each row, replaces every repetition of a value by -∞, sorts again and takes the first eight values. These are the
greatest values of the row, equal ones counted once (`distinct_apply`), with nothing assumed of the row.
-/
module

public import proofs.«01_k».proof.Proof.Gen.DistinctIdeal
public import proofs.«01_k».proof.Proof.RefValue

@[expose] public section

noncomputable section

namespace Cert.TopEight

open Cert.DistinctIdeal Cert.DistinctIdeal.Gen
open Idealize.ShloMosaic

/-- No two places of the sorted list come from one place of the row. -/
theorem order_injective {n : ℕ} (f : Fin n → EReal) : Function.Injective (order f) :=
  Finite.injective_iff_surjective.mpr (order_surjective f)

/-- The row sorted, its repetitions replaced and sorted again begins with its greatest values. -/
theorem sorted_twice {n : ℕ} (f : Fin (n + 1) → EReal) (k : ℕ) (hk : k < n + 1) :
    firsts (fun p => f (order f p)) (order (firsts fun p => f (order f p)) ⟨k, hk⟩) = nth (Set.range f) k := by
  have hs := order_antitone f
  rw [← order_range f, ← nth_firsts _ hs]
  refine (nth_order (firsts fun p => f (order f p)) k hk fun j hj => ?_).symm
  have hne : order (firsts fun p => f (order f p)) ⟨j, by omega⟩ ≠ order (firsts fun p => f (order f p)) ⟨j + 1, by omega⟩ :=
    fun e => absurd (order_injective _ e) (by simp [Fin.ext_iff])
  refine (order_antitone (firsts fun p => f (order f p)) (Fin.mk_le_mk.mpr (Nat.le_succ j))).lt_or_eq.imp_right fun e => ?_
  rcases lt_or_gt_of_ne hne with h | h
  · exact firsts_once _ hs h e.symm
  · exact e.trans (firsts_once _ hs h e)

/-- The pattern that stands for the least value in f32. -/
theorem low32_eq : Ideal.ofBits .f32 0xFF800000#32 = (⊥ : EReal) := by simp [Ideal.ofBits, Ideal.ieee]

/-- Each row in descending order. -/
def sorted (X : FVec Ideal S256x4096 .f32) : FVec Ideal S256x4096 .f32 :=
  Host.negf (Host.sort S256x4096 1 (comparator_f32_d1 (F := Ideal)) (Host.negf X))

/-- It is the row read through its sorting permutation. -/
theorem sorted_apply (X : FVec Ideal S256x4096 .f32) (r : Fin 256) (p : Fin 4096) :
    sorted X (ix2 r p) = X (ix2 r (order (fun i => X (ix2 r i)) p)) :=
  (congrArg Neg.neg (sort_apply X r p)).trans (neg_neg _)

/-- Each value that isn't below the one before replaced by -∞. -/
def once (s : FVec Ideal S256x4096 .f32) : FVec Ideal S256x4096 .f32 :=
  concatenate S256x4096 1 [⟨S256x1, extractStridedSlice S256x1 ![0, 0] s slices_S256x4096_S256x1_0_0⟩,
    ⟨S256x4095, select (cmpf .olt (extractStridedSlice S256x4095 ![0, 1] s slices_S256x4096_S256x4095_0_1)
        (extractStridedSlice S256x4095 ![0, 0] s slices_S256x4096_S256x4095_0_0))
      (extractStridedSlice S256x4095 ![0, 1] s slices_S256x4096_S256x4095_0_1)
      (broadcastInDim S256x4095 ![] bcast_S_S256x4095 (id (constant S_ .f32 0xFF800000#32)))⟩]
    concatenates_S256x1_S256x4095_S256x4096_d1

/-- A row of it is `firsts` of the row. -/
theorem once_apply (s : FVec Ideal S256x4096 .f32) (r : Fin 256) (i : Fin 4096) :
    once s (ix2 r i) = firsts (fun i : Fin (4095 + 1) => (s (ix2 r i) : EReal)) i := by
  refine Fin.cases (motive := fun i : Fin (4095 + 1) => once s (ix2 r i) = firsts (fun i : Fin (4095 + 1) => (s (ix2 r i) : EReal)) i) ?_ (fun p => ?_) i
  · pointwise [once]
    rfl
  · rw [firsts_succ]
    pointwise [once]
    refine (dif_neg (show ¬ p.succ.val < 1 by simp)).trans ?_
    have e : (⟨1 + (p.succ.val - 1), by simp; omega⟩ : Fin 4096) = p.succ := Fin.ext (by simp; omega)
    have e' : (⟨p.succ.val - 1, by simp; omega⟩ : Fin 4096) = p.castSucc := rfl
    rw [e, e']
    exact congrArg (fun v => if s (ix2 r p.succ) < s (ix2 r p.castSucc) then s (ix2 r p.succ) else v) low32_eq

/-- What the second reference ends with on `X`. -/
def distinct (X : FVec Ideal S256x4096 .f32) : FVec Ideal S256x8 .f32 :=
  Host.negf (extractStridedSlice S256x8 ![0, 0]
    (Host.sort S256x4096 1 (comparator_f32_d1 (F := Ideal)) (Host.negf (once (sorted X)))) slices_S256x4096_S256x8_0_0)

/-- In row `r` at `k`: the row's `k`-th greatest value, equal values counted once. -/
theorem distinct_apply (X : FVec Ideal S256x4096 .f32) (r : Fin 256) (k : Fin 8) :
    distinct X (ix2 r k) = nth (Set.range fun i : Fin 4096 => (X (ix2 r i) : EReal)) k := by
  have h0 : distinct X (ix2 r k) = once (sorted X) (ix2 r (order (fun i => once (sorted X) (ix2 r i)) (k.castLE (by decide)))) :=
    descending_apply (once (sorted X)) r k
  have ho : (fun i => once (sorted X) (ix2 r i)) = firsts fun i : Fin (4095 + 1) => (X (ix2 r (order (fun i => X (ix2 r i)) i)) : EReal) :=
    funext fun i => (once_apply (sorted X) r i).trans (congrArg (fun g => firsts (n := 4095) g i) (funext fun p => sorted_apply X r p))
  rw [h0]
  have h1 := congrFun ho (order (fun i => once (sorted X) (ix2 r i)) (k.castLE (by decide)))
  refine h1.trans ?_
  rw [ho]
  exact sorted_twice (n := 4095) (fun i => X (ix2 r i)) k.val (by omega)

end Cert.TopEight

end
-- ==== Proof.Value.lean ====
/-
# The values the programs share

Each group of four devices holds a copy of the whole input, cut along its columns. So the values the four blocks of a
group have in a row are the values of that row of the whole input, and the kernel's result is read off the whole input.
-/
module

public import proofs.«01_k».proof.Proof.KernelValue
public import proofs.«01_k».proof.Proof.RefValue
public import proofs.«01_k».proof.Proof.DistinctValue
public import proofs.«01_k».proof.Proof.Launch

@[expose] public section

noncomputable section

namespace Cert.TopEight

open Idealize.ShloMosaic Idealize.SL.Sem Cert.KernelIdeal

/-- The block of device `c` in the whole input. -/
def held (x : (⟨2, ![256, 4096]⟩ : Shape).Idx → EReal) (c : Dev nD) : (⟨2, ![256, 1024]⟩ : Shape).Idx → EReal :=
  Layout.blockN ⟨2, ![256, 1024]⟩ ⟨2, ![256, 4096]⟩ (Layout.meshBlock [2, 4, 4] ![[], [2]] c) x

/-- The column of the whole input that column `i` of the block of the group's member `z` is. -/
def column (z : Fin 4) (i : Fin 1024) : Fin 4096 := ⟨1024 * z.val + i.val, by omega⟩

/-- A member's block read in the whole input. -/
theorem held_mate (x : (⟨2, ![256, 4096]⟩ : Shape).Idx → EReal) (c : Dev nD) (z : Fin 4) (r : Fin 256) (i : Fin 1024) :
    held x (mate c z) (ix2 r i) = x (ix2 r (column z i)) := by
  refine congrArg x (funext fun b => Fin.ext ?_)
  have hz : Layout.meshLin [2, 4, 4] (mate c z).val [2] = z.val := by
    show 0 * 4 + (4 * (c.val / 4) + z.val) / 1 % 4 = z.val
    omega
  match b with
  | ⟨0, _⟩ => exact (congrArg (· + r.val) (Nat.zero_mul _)).trans (Nat.zero_add _)
  | ⟨1, _⟩ => exact congrArg (· + i.val) ((congrArg (· * 1024) hz).trans (Nat.mul_comm _ _))

/-- Each column of the whole input is a column of one of the four blocks. -/
theorem range_held (x : (⟨2, ![256, 4096]⟩ : Shape).Idx → EReal) (c : Dev nD) (r : Fin 256) :
    (Set.range fun p : Fin 4 × Fin 1024 => held x (mate c p.1) (ix2 r p.2)) = Set.range fun i : Fin 4096 => x (ix2 r i) := by
  ext v
  constructor
  · rintro ⟨p, rfl⟩
    exact ⟨column p.1 p.2, (held_mate x c p.1 r p.2).symm⟩
  · rintro ⟨i, rfl⟩
    refine ⟨(⟨i.val / 1024, by omega⟩, ⟨i.val % 1024, by omega⟩), (held_mate x c _ r _).trans ?_⟩
    exact congrArg (fun q => x (ix2 r q)) (Fin.ext (Nat.div_add_mod i.val 1024))

variable (m : (ℓ : Loc nD τ sig) → Buf (Elt Ideal) ℓ) (ρ : Dev nD → PrngReg)

/-- From blocks of `x`, each device ends with the next greatest values of each row of `x`. -/
theorem result_nth (x : (⟨2, ![256, 4096]⟩ : Shape).Idx → EReal)
    (hx : ∀ c : Dev nD, m ((c.tc : Thread nD τ).loc main_arg0) = held x c) (c : Dev nD) (r : Fin 256) (k : Fin 8) :
    result (F := Ideal) m ρ c (ix2 r k) = nth (Set.range fun i : Fin 4096 => x (ix2 r i)) k := by
  rw [result_apply, ← range_held x c r]
  have e : ∀ z, blk (F := Ideal) m ρ (mate c z) = held x (mate c z) := fun z => (blk_eq m ρ _).trans (hx _)
  simp only [e]

/-- Where the mask selects, the device's result is the reference's. -/
theorem result_eq_chosen (x : FVec Ideal Cert.ReferenceIdeal.S256x4096 .bf16)
    (hx : ∀ c : Dev nD, m ((c.tc : Thread nD τ).loc main_arg0) = held x c) (c : Dev nD) (i : S256x8.Idx)
    (h : Cert.On_untied.fn (F := Ideal) x i = 1#1) :
    result (F := Ideal) m ρ c i = chosen (extf .f32 x Cert.ReferenceIdeal.Gen.bitsLt_bf16_f32) i := by
  obtain ⟨r, k, rfl⟩ : ∃ r k, i = ix2 r k := ⟨_, _, eq_ix2 i⟩
  exact (result_nth m ρ x hx c r k).trans (chosen_nth x r k h).symm

/-- Everywhere the device's result is the second reference's. -/
theorem result_eq_distinct (x : FVec Ideal Cert.DistinctIdeal.S256x4096 .bf16)
    (hx : ∀ c : Dev nD, m ((c.tc : Thread nD τ).loc main_arg0) = held x c) (c : Dev nD) :
    result (F := Ideal) m ρ c = distinct (extf .f32 x Cert.DistinctIdeal.Gen.bitsLt_bf16_f32) := by
  funext i
  obtain ⟨r, k, rfl⟩ : ∃ r k, i = ix2 r k := ⟨_, _, eq_ix2 i⟩
  exact (result_nth m ρ x hx c r k).trans (distinct_apply _ r k).symm

end Cert.TopEight

end
-- ==== Proof.lean ====
/-
# The certificate

The kernel's run, the reference's run and the value they share are proved in the modules imported here; this file
puts the claims together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.DistinctIdeal
public import proofs.«01_k».proof.Proof.Gen.DistinctIdeal.Run
public import proofs.«01_k».proof.Proof.Gen.On_untied
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The two prints of the kernel have the same body … -/
theorem body_same : Cert.Kernel.defs₀ (F := Bits) = Cert.KernelIdeal.defs₀ (F := Bits) := by
  unfold Cert.Kernel.defs₀ Cert.KernelIdeal.defs₀
  refine congrArg _ ?_
  funext l a
  fin_cases l
  rfl

/-- … and so the same programs. -/
theorem defs_same : Cert.Kernel.defs (F := Bits) = Cert.KernelIdeal.defs (F := Bits) := by
  unfold Cert.Kernel.defs Cert.KernelIdeal.defs
  rw [body_same]
  rfl

/-- The kernel on bits runs, leaves its argument and every counter as they were. -/
theorem frame_kernel : Cert.quiescent_Kernel := by
  intro m ρ _
  rw [defs_same]
  exact (θ_run Cert.KernelIdeal.defs _ _).mono (fun _ h => ⟨fun c => (h.1 c (0 : Fin 2)).trans (TopEight.arr_in m ρ c), h.2⟩)
    (TopEight.run_main (F := Bits) m ρ)

/-- The kernel on real numbers likewise. -/
theorem frame_ideal : Cert.quiescent_KernelIdeal := fun m ρ _ =>
  (θ_run Cert.KernelIdeal.defs _ _).mono (fun _ h => ⟨fun c => (h.1 c (0 : Fin 2)).trans (TopEight.arr_in m ρ c), h.2⟩)
    (TopEight.run_main (F := Ideal) m ρ)

/-- The reference likewise; it has no semaphores. -/
theorem frame_reference : Cert.quiescent_ReferenceIdeal := fun m ρ _ =>
  (θ_run Cert.ReferenceIdeal.defs _ _).mono (fun r h => ⟨fun c => (h c).2,
    sem_eq_zero_of_no_sems (by decide) r.2⟩)
    (Cert.ReferenceIdeal.Value.run (F := Ideal) m ρ)

/-- And the second reference. -/
theorem frame_distinct : Cert.quiescent_DistinctIdeal := fun m ρ _ =>
  (θ_run Cert.DistinctIdeal.defs _ _).mono (fun r h => ⟨fun c => (h c).2,
    sem_eq_zero_of_no_sems (by decide) r.2⟩)
    (Cert.DistinctIdeal.Value.run (F := Ideal) m ρ)

/-- Where the first values of a sorted row strictly descend, every device ends with the reference's values. -/
theorem equal_untied : Cert.algebraic_KernelIdeal_ReferenceIdeal_on_untied := fun m ρ m' ρ' _ hx =>
  ⟨TopEight.chosen (extf .f32 (m' (((0 : Dev Cert.ReferenceIdeal.nD).tc : Thread Cert.ReferenceIdeal.nD Cert.ReferenceIdeal.τ).loc Cert.ReferenceIdeal.main_arg0))
      Cert.ReferenceIdeal.Gen.bitsLt_bf16_f32),
    (θ_run Cert.KernelIdeal.defs _ _).mono (fun _ h c =>
      ⟨fun i hi => (congrFun ((h.1 c (1 : Fin 2)).trans (TopEight.arr_out m ρ c)) i).trans (TopEight.result_eq_chosen m ρ _ hx c i hi),
        (h.1 c (0 : Fin 2)).trans (TopEight.arr_in m ρ c)⟩) (TopEight.run_main (F := Ideal) m ρ),
    (θ_run Cert.ReferenceIdeal.defs _ _).mono (fun _ h => ⟨fun i _ => congrFun (h 0).1 i, (h 0).2⟩)
      (Cert.ReferenceIdeal.Value.run (F := Ideal) m' ρ')⟩

/-- Everywhere every device ends with the second reference's values. -/
theorem equal_distinct : Cert.algebraic_KernelIdeal_DistinctIdeal := fun m ρ m' ρ' _ hx =>
  ⟨TopEight.distinct (extf .f32 (m' (((0 : Dev Cert.DistinctIdeal.nD).tc : Thread Cert.DistinctIdeal.nD Cert.DistinctIdeal.τ).loc Cert.DistinctIdeal.main_arg0))
      Cert.DistinctIdeal.Gen.bitsLt_bf16_f32),
    (θ_run Cert.KernelIdeal.defs _ _).mono (fun _ h c =>
      ⟨((h.1 c (1 : Fin 2)).trans (TopEight.arr_out m ρ c)).trans (TopEight.result_eq_distinct m ρ _ hx c),
        (h.1 c (0 : Fin 2)).trans (TopEight.arr_in m ρ c)⟩) (TopEight.run_main (F := Ideal) m ρ),
    (θ_run Cert.DistinctIdeal.defs _ _).mono (fun _ h => h 0) (Cert.DistinctIdeal.Value.run (F := Ideal) m' ρ')⟩

/-- All the claims. -/
theorem claim : Cert.Claim := ⟨Cert.Kernel.Gen.facts, Cert.KernelIdeal.Gen.facts, Cert.ReferenceIdeal.Gen.facts, Cert.DistinctIdeal.Gen.facts, Cert.On_untied.Gen.facts,
  frame_kernel, frame_ideal, frame_reference, frame_distinct, trivial, equal_untied, equal_distinct⟩

end Cert.Proof

end
